-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_column_tie [hPre_no_column_tie : Cert.Pre_no_column_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_column_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_column_tie [hPre_no_column_tie : Cert.Pre_no_column_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_column_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_column_tie [hKernelIdeal : Cert.KernelIdeal.Facts] [hPre_no_column_tie : Cert.Pre_no_column_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_column_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_column_tie [hReferenceIdeal : Cert.ReferenceIdeal.Facts] [hPre_no_column_tie : Cert.Pre_no_column_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_column_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_column_tie [hKernelIdeal : Cert.KernelIdeal.Facts] [hReferenceIdeal : Cert.ReferenceIdeal.Facts] [hPre_no_column_tie : Cert.Pre_no_column_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_column_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_values_17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_column_tie : Cert.Pre_no_column_tie.Facts),
    quiescent_Kernel (hKernel := hKernel)
    ∧ quiescent_KernelIdeal (hKernelIdeal := hKernelIdeal)
    ∧ quiescent_KernelIdeal_pre_no_column_tie (hKernelIdeal := hKernelIdeal) (hPre_no_column_tie := hPre_no_column_tie)
    ∧ quiescent_ReferenceIdeal (hReferenceIdeal := hReferenceIdeal)
    ∧ quiescent_ReferenceIdeal_pre_no_column_tie (hReferenceIdeal := hReferenceIdeal) (hPre_no_column_tie := hPre_no_column_tie)
    ∧ preserves_Kernel_KernelIdeal
    ∧ algebraic_KernelIdeal_ReferenceIdeal_pre_no_column_tie (hKernelIdeal := hKernelIdeal) (hReferenceIdeal := hReferenceIdeal) (hPre_no_column_tie := hPre_no_column_tie)
-- ==== Pre_no_column_tie.lean ====
abbrev S1008x256 : Shape := ⟨2, ![1008, 256]⟩
abbrev S4096x256 : Shape := ⟨2, ![4096, 256]⟩
abbrev S1008 : Shape := ⟨1, ![1008]⟩
abbrev S4096 : Shape := ⟨1, ![4096]⟩
abbrev S_ : Shape := ⟨0, ![]⟩
abbrev S1008x1 : Shape := ⟨2, ![1008, 1]⟩
abbrev S4096x1 : Shape := ⟨2, ![4096, 1]⟩
abbrev S256x4096 : Shape := ⟨2, ![256, 4096]⟩
abbrev S1008x4096 : Shape := ⟨2, ![1008, 4096]⟩
abbrev S1x4096 : Shape := ⟨2, ![1, 4096]⟩
abbrev S4096x1008 : Shape := ⟨2, ![4096, 1008]⟩
abbrev S4096x3 : Shape := ⟨2, ![4096, 3]⟩

class Facts : Prop where
  reducesTo_S1008x256_S1008_d1 : S1008x256.ReducesTo [1] S1008
  h_S_ : 0 < S_.numel
  bcast_S1008_S1008x1_0 : S1008.BroadcastsInDim S1008x1 (![0] : Fin 1 → Fin S1008x1.rank)
  bcast_S_S1008x1 : S_.BroadcastsInDim S1008x1 (![] : Fin 0 → Fin S1008x1.rank)
  bcast_S1008x1_S1008x256_0_1 : S1008x1.BroadcastsInDim S1008x256 (![0, 1] : Fin 2 → Fin S1008x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S4096_S1x4096_1 : S4096.BroadcastsInDim S1x4096 (![1] : Fin 1 → Fin S1x4096.rank)
  bcast_S1008x1_S1008x4096_0_1 : S1008x1.BroadcastsInDim S1008x4096 (![0, 1] : Fin 2 → Fin S1008x4096.rank)
  bcast_S1x4096_S1008x4096_0_1 : S1x4096.BroadcastsInDim S1008x4096 (![0, 1] : Fin 2 → Fin S1008x4096.rank)
  bcast_S_S1008x4096 : S_.BroadcastsInDim S1008x4096 (![] : Fin 0 → Fin S1008x4096.rank)
  transposes_S1008x4096_S4096x1008_1_0 : S1008x4096.Transposes [1, 0] S4096x1008
  sliceFits_S4096x1008_S4096x3 : S4096x1008.Slices (fun _ => 0) S4096x3
  slices_S4096x3_S4096x1_0_2 : S4096x3.Slices ![0, 2] S4096x1
  shapeCasts_S4096x1_S4096 : S4096x1.ShapeCasts S4096
  natLt_1_32 : 1 < 32
  reducesTo_S1008x4096_S4096_d0 : S1008x4096.ReducesTo [0] S4096
  bcast_S_S4096 : S_.BroadcastsInDim S4096 (![] : Fin 0 → Fin S4096.rank)
  reducesTo_S4096_S_d0 : S4096.ReducesTo [0] S_
  dot_S1008x256_S256x4096_S1008x4096_1_0_0_1_n_n_wf : DotDims.WF S1008x256 S256x4096 S1008x4096 [1] [0] [0] [1] [] []

variable [Facts]

def dot_S1008x256_S256x4096_S1008x4096_1_0_0_1_n_n : DotDims S1008x256 S256x4096 S1008x4096 where
  lhsContracting := [1]
  rhsContracting := [0]
  lhsNonContracting := [0]
  rhsNonContracting := [1]
  lhsBatch := []
  rhsBatch := []
  wf := dot_S1008x256_S256x4096_S1008x4096_1_0_0_1_n_n_wf
def fn_norm {F : FTy → Type} [FloatOps F] (arg0 : FVec F S1008x256 .f32) : FVec F S1008x1 .f32 :=
  let v0 : FVec F S1008x256 .f32 := mulf arg0 arg0
  let cst : FVec F S_ .f32 := constant S_ .f32 0x00000000#32
  let v1 : FVec F S1008 .f32 := (fun x v => Host.reduceAdd x v reducesTo_S1008x256_S1008_d1 h_S_) v0 cst
  let v2 : FVec F S1008x1 .f32 := broadcastInDim S1008x1 ![0] bcast_S1008_S1008x1_0 v1
  let v3 : FVec F S1008x1 .f32 := Host.sqrt v2
  v3

def fn_norm_0 {F : FTy → Type} [FloatOps F] (arg0 : FVec F S4096x256 .f32) : FVec F S4096x1 .f32 :=
  let v0 : FVec F S4096x256 .f32 := mulf arg0 arg0
  let cst : FVec F S_ .f32 := constant S_ .f32 0x00000000#32
  let v1 : FVec F S4096 .f32 := (fun x v => Host.reduceAdd x v reducesTo_S4096x256_S4096_d1 h_S_) v0 cst
  let v2 : FVec F S4096x1 .f32 := broadcastInDim S4096x1 ![0] bcast_S4096_S4096x1_0 v1
  let v3 : FVec F S4096x1 .f32 := Host.sqrt v2
  v3

def fn_where {F : FTy → Type} [FloatOps F] (arg0 : IVec S1008x4096 1) (arg1 : FVec F S1008x4096 .f32) (arg2 : FVec F S_ .f32) : FVec F S1008x4096 .f32 :=
  let v0 : FVec F S_ .f32 := id arg2
  let v1 : FVec F S1008x4096 .f32 := broadcastInDim S1008x4096 ![] bcast_S_S1008x4096 v0
  let v2 : FVec F S1008x4096 .f32 := select arg0 arg1 v1
  v2

def fn_part1 {F : FTy → Type} [FloatOps F] (main_v17 : FVec F S1008x4096 .f32) (main_values : FVec F S4096x3 .f32) : IVec S_ 1 :=
  let main_v19 : FVec F S4096x1 .f32 := (extractStridedSlice S4096x1 ![0, 2] · slices_S4096x3_S4096x1_0_2) main_values
  let main_v20 : FVec F S4096 .f32 := shapeCast S4096 main_v19 shapeCasts_S4096x1_S4096
  let main_v21 : FVec F S1x4096 .f32 := broadcastInDim S1x4096 ![1] bcast_S4096_S1x4096_1 main_v20
  let main_v22 : FVec F S1008x4096 .f32 := broadcastInDim S1008x4096 ![0, 1] bcast_S1x4096_S1008x4096_0_1 main_v21
  let main_v23 : IVec S1008x4096 1 := cmpf .oge main_v17 main_v22
  let main_cst_2 : FVec F S_ .f32 := constant S_ .f32 0x00000000#32
  let main_v24 : FVec F S1008x4096 .f32 := broadcastInDim S1008x4096 ![] bcast_S_S1008x4096 main_cst_2
  let main_v25 : IVec S1008x4096 1 := cmpf .ogt main_v17 main_v24
  let main_v26 : IVec S1008x4096 1 := andi main_v23 main_v25
  let main_v27 : IVec S1008x4096 32 := (extui 32 · natLt_1_32) main_v26
  let main_c : IVec S_ 32 := constantI S_ 32 0#32
  let main_v28 : IVec S4096 32 := (fun x v => Host.reduce IntOp.addi x v reducesTo_S1008x4096_S4096_d0 h_S_) main_v27 main_c
  let main_c_3 : IVec S_ 32 := constantI S_ 32 3#32
  let main_v29 : IVec S4096 32 := broadcastInDim S4096 ![] bcast_S_S4096 main_c_3
  let main_v30 : IVec S4096 1 := cmpi .sle main_v28 main_v29
  let main_c_4 : IVec S_ 1 := constantI S_ 1 1#1
  let main_v31 : IVec S_ 1 := (fun x v => Host.reduce IntOp.andi x v reducesTo_S4096_S_d0 h_S_) main_v30 main_c_4
  main_v31

def fn {F : FTy → Type} [FloatOps F] (main_arg0 : FVec F S1008x256 .f32) (main_arg1 : FVec F S4096x256 .f32) (main_arg2 : IVec S1008 1) (main_arg3 : IVec S4096 1) : IVec S_ 1 :=
  let main_v0 : FVec F S1008x1 .f32 := fn_norm (F := F) main_arg0
  let main_cst : FVec F S_ .f32 := constant S_ .f32 0x322BCC77#32
  let main_v1 : FVec F S1008x1 .f32 := broadcastInDim S1008x1 ![] bcast_S_S1008x1 main_cst
  let main_v2 : FVec F S1008x1 .f32 := addf main_v0 main_v1
  let main_v3 : FVec F S1008x256 .f32 := broadcastInDim S1008x256 ![0, 1] bcast_S1008x1_S1008x256_0_1 main_v2
  let main_v4 : FVec F S1008x256 .f32 := Host.divf main_arg0 main_v3
  let main_v5 : FVec F S4096x1 .f32 := fn_norm_0 (F := F) main_arg1
  let main_cst_0 : FVec F S_ .f32 := constant S_ .f32 0x322BCC77#32
  let main_v6 : FVec F S4096x1 .f32 := broadcastInDim S4096x1 ![] bcast_S_S4096x1 main_cst_0
  let main_v7 : FVec F S4096x1 .f32 := addf main_v5 main_v6
  let main_v8 : FVec F S4096x256 .f32 := broadcastInDim S4096x256 ![0, 1] bcast_S4096x1_S4096x256_0_1 main_v7
  let main_v9 : FVec F S4096x256 .f32 := Host.divf main_arg1 main_v8
  let main_v10 : FVec F S256x4096 .f32 := (transpose S256x4096 [1, 0] · transposes_S4096x256_S256x4096_1_0) main_v9
  let main_v11 : FVec F S1008x4096 .f32 := (fun l r => Host.dotGeneral dot_S1008x256_S256x4096_S1008x4096_1_0_0_1_n_n none l r) main_v4 main_v10
  let main_v12 : IVec S1008x1 1 := broadcastInDim S1008x1 ![0] bcast_S1008_S1008x1_0 main_arg2
  let main_v13 : IVec S1x4096 1 := broadcastInDim S1x4096 ![1] bcast_S4096_S1x4096_1 main_arg3
  let main_v14 : IVec S1008x4096 1 := broadcastInDim S1008x4096 ![0, 1] bcast_S1008x1_S1008x4096_0_1 main_v12
  let main_v15 : IVec S1008x4096 1 := broadcastInDim S1008x4096 ![0, 1] bcast_S1x4096_S1008x4096_0_1 main_v13
  let main_v16 : IVec S1008x4096 1 := andi main_v14 main_v15
  let main_cst_1 : FVec F S_ .f32 := constant S_ .f32 0xCE6E6B28#32
  let main_v17 : FVec F S1008x4096 .f32 := fn_where (F := F) main_v16 main_v11 main_cst_1
  let main_v18 : FVec F S4096x1008 .f32 := (transpose S4096x1008 [1, 0] · transposes_S1008x4096_S4096x1008_1_0) main_v17
  let main_values : FVec F S4096x3 .f32 := (fun x => (Host.topK S4096x3 1 (FloatOps.cmpfTotal .gt) x sliceFits_S4096x1008_S4096x3).1) main_v18
  let main_indices : IVec S4096x3 32 := (fun x => (Host.topK S4096x3 1 (FloatOps.cmpfTotal .gt) x sliceFits_S4096x1008_S4096x3).2) main_v18
  fn_part1 (F := F) main_v17 main_values
-- ==== Kernel.lean ====
abbrev S1008x256 : Shape := ⟨2, ![1008, 256]⟩
abbrev S4096x256 : Shape := ⟨2, ![4096, 256]⟩
abbrev S1008 : Shape := ⟨1, ![1008]⟩
abbrev S4096 : Shape := ⟨1, ![4096]⟩
abbrev S_ : Shape := ⟨0, ![]⟩
abbrev S1024x256 : Shape := ⟨2, ![1024, 256]⟩
abbrev S1 : Shape := ⟨1, ![1]⟩
abbrev S1024x1 : Shape := ⟨2, ![1024, 1]⟩
abbrev S2 : Shape := ⟨1, ![2]⟩
abbrev S1x4096 : Shape := ⟨2, ![1, 4096]⟩
abbrev S256x1 : Shape := ⟨2, ![256, 1]⟩
abbrev S1024 : Shape := ⟨1, ![1024]⟩
abbrev S4096x1 : Shape := ⟨2, ![4096, 1]⟩
abbrev S1024x4096 : Shape := ⟨2, ![1024, 4096]⟩
abbrev S512x1 : Shape := ⟨2, ![512, 1]⟩
abbrev S1x1 : Shape := ⟨2, ![1, 1]⟩
abbrev S3584x1 : Shape := ⟨2, ![3584, 1]⟩
abbrev S512x512 : Shape := ⟨2, ![512, 512]⟩
abbrev S1x512 : Shape := ⟨2, ![1, 512]⟩
abbrev S1x3584 : Shape := ⟨2, ![1, 3584]⟩
abbrev S3584x512 : Shape := ⟨2, ![3584, 512]⟩
abbrev S3584 : Shape := ⟨1, ![3584]⟩
abbrev S256x512 : Shape := ⟨2, ![256, 512]⟩
abbrev S256 : Shape := ⟨1, ![256]⟩

abbrev nBuf : Space → Nat
  | .hbm => 26
  | .vmem => 7
  | .smem => 0
  | _ => 0

abbrev bufTy : (tb : Table) → Fin (tcTables nBuf tb) → BufTy
  | .hbm, ⟨0, _⟩ => ⟨S1008x256, .f32⟩
  | .hbm, ⟨1, _⟩ => ⟨S4096x256, .f32⟩
  | .hbm, ⟨2, _⟩ => ⟨S1008, .i1⟩
  | .hbm, ⟨3, _⟩ => ⟨S4096, .i1⟩
  | .hbm, ⟨4, _⟩ => ⟨S_, .f32⟩
  | .hbm, ⟨5, _⟩ => ⟨S1024x256, .f32⟩
  | .hbm, ⟨6, _⟩ => ⟨S_, .i32⟩
  | .hbm, ⟨7, _⟩ => ⟨S1, .i32⟩
  | .hbm, ⟨8, _⟩ => ⟨S1024x256, .f32⟩
  | .hbm, ⟨9, _⟩ => ⟨S_, .f32⟩
  | .hbm, ⟨10, _⟩ => ⟨S1024x1, .f32⟩
  | .hbm, ⟨11, _⟩ => ⟨S1008, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1024x1, .f32⟩
  | .hbm, ⟨18, _⟩ => ⟨S4096, .f32⟩
  | .hbm, ⟨19, _⟩ => ⟨S1x4096, .f32⟩
  | .hbm, ⟨20, _⟩ => ⟨S256x1, .i32⟩
  | .hbm, ⟨21, _⟩ => ⟨S256x1, .i32⟩
  | .hbm, ⟨22, _⟩ => ⟨S256x1, .f32⟩
  | .hbm, ⟨23, _⟩ => ⟨S256, .i32⟩
  | .hbm, ⟨24, _⟩ => ⟨S256, .i32⟩
  | .hbm, ⟨25, _⟩ => ⟨S256, .f32⟩
  | .local _ .vmem, ⟨0, _⟩ => ⟨S1024x256, .f32⟩
  | .local _ .vmem, ⟨1, _⟩ => ⟨S4096x256, .f32⟩
  | .local _ .vmem, ⟨2, _⟩ => ⟨S1024x1, .f32⟩
  | .local _ .vmem, ⟨3, _⟩ => ⟨S1x4096, .f32⟩
  | .local _ .vmem, ⟨4, _⟩ => ⟨S256x1, .i32⟩
  | .local _ .vmem, ⟨5, _⟩ => ⟨S256x1, .i32⟩
  | .local _ .vmem, ⟨6, _⟩ => ⟨S256x1, .f32⟩
  | _, _ => ⟨S1008x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1008x256 : Shape := ⟨2, ![1008, 256]⟩
abbrev S4096x256 : Shape := ⟨2, ![4096, 256]⟩
abbrev S1008 : Shape := ⟨1, ![1008]⟩
abbrev S4096 : Shape := ⟨1, ![4096]⟩
abbrev S_ : Shape := ⟨0, ![]⟩
abbrev S1008x1 : Shape := ⟨2, ![1008, 1]⟩
abbrev S4096x1 : Shape := ⟨2, ![4096, 1]⟩
abbrev S256x4096 : Shape := ⟨2, ![256, 4096]⟩
abbrev S1008x4096 : Shape := ⟨2, ![1008, 4096]⟩
abbrev S1x4096 : Shape := ⟨2, ![1, 4096]⟩
abbrev S1008x3 : Shape := ⟨2, ![1008, 3]⟩
abbrev S1008x3x1 : Shape := ⟨3, ![1008, 3, 1]⟩
abbrev S1008x3x2 : Shape := ⟨3, ![1008, 3, 2]⟩
abbrev S4096x1008 : Shape := ⟨2, ![4096, 1008]⟩
abbrev S4096x3 : Shape := ⟨2, ![4096, 3]⟩
abbrev S4096x3x1 : Shape := ⟨3, ![4096, 3, 1]⟩
abbrev S4096x3x2 : Shape := ⟨3, ![4096, 3, 2]⟩
abbrev S4128768 : Shape := ⟨1, ![4128768]⟩
abbrev S256 : Shape := ⟨1, ![256]⟩

abbrev nBuf : Space → Nat
  | .hbm => 144
  | .vmem => 0
  | .smem => 0
  | _ => 0

abbrev hbmTy0_0 (i : Nat) : BufTy := match i % 128 with
  | 0 => ⟨S1008x256, .f32⟩
  | 1 => ⟨S4096x256, .f32⟩
  | 2 => ⟨S1008, .i1⟩
  | 3 => ⟨S4096, .i1⟩
  | 4 => ⟨S1008x256, .f32⟩
  | 5 => ⟨S_, .f32⟩
  | 6 => ⟨S1008, .f32⟩
  | 7 => ⟨S1008x1, .f32⟩
  | 8 => ⟨S1008x1, .f32⟩
  | 9 => ⟨S_, .f32⟩
  | 10 => ⟨S1008x1, .f32⟩
  | 11 => ⟨S1008x1, .f32⟩
  | 12 => ⟨S1008x256, .f32⟩
  | 13 => ⟨S1008x256, .f32⟩
  | 14 => ⟨S4096x256, .f32⟩
  | 15 => ⟨S_, .f32⟩
  | 16 => ⟨S4096, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x256, .f32⟩
  | 23 => ⟨S4096x256, .f32⟩
  | 24 => ⟨S256x4096, .f32⟩
  | 25 => ⟨S1008x4096, .f32⟩
  | 26 => ⟨S1008x1, .i1⟩
  | 27 => ⟨S1x4096, .i1⟩
  | 28 => ⟨S1008x4096, .i1⟩
  | 29 => ⟨S1008x4096, .i1⟩
  | 30 => ⟨S1008x4096, .i1⟩
  | 31 => ⟨S_, .f32⟩
  | 32 => ⟨S_, .f32⟩
  | 33 => ⟨S1008x4096, .f32⟩
  | 34 => ⟨S1008x4096, .f32⟩
  | 35 => ⟨S1008x3, .f32⟩
  | 36 => ⟨S1008x3, .i32⟩
  | 37 => ⟨S_, .i1⟩
  | 38 => ⟨S1008x4096, .i1⟩
  | 39 => ⟨S1008, .i32⟩
  | 40 => ⟨S1008x1, .i32⟩
  | 41 => ⟨S_, .i32⟩
  | 42 => ⟨S1008x1, .i32⟩
  | 43 => ⟨S1008x1, .i1⟩
  | 44 => ⟨S_, .i32⟩
  | 45 => ⟨S1008x1, .i32⟩
  | 46 => ⟨S1008x1, .i32⟩
  | 47 => ⟨S1008x1, .i32⟩
  | 48 => ⟨S_, .i32⟩
  | 49 => ⟨S1008x3, .i32⟩
  | 50 => ⟨S1008x3, .i1⟩
  | 51 => ⟨S_, .i32⟩
  | 52 => ⟨S1008x3, .i32⟩
  | 53 => ⟨S1008x3, .i32⟩
  | 54 => ⟨S1008x3, .i32⟩
  | 55 => ⟨S1008x3, .i32⟩
  | 56 => ⟨S1008x3x1, .i32⟩
  | 57 => ⟨S1008x3x1, .i32⟩
  | 58 => ⟨S1008x3x2, .i32⟩
  | 59 => ⟨S_, .i1⟩
  | 60 => ⟨S1008x3, .i1⟩
  | 61 => ⟨S1008x4096, .i1⟩
  | 62 => ⟨S4096x1008, .f32⟩
  | 63 => ⟨S4096x3, .f32⟩
  | 64 => ⟨S4096x3, .i32⟩
  | 65 => ⟨S_, .i1⟩
  | 66 => ⟨S4096x1008, .i1⟩
  | 67 => ⟨S4096, .i32⟩
  | 68 => ⟨S4096x1, .i32⟩
  | 69 => ⟨S_, .i32⟩
  | 70 => ⟨S4096x1, .i32⟩
  | 71 => ⟨S4096x1, .i1⟩
  | 72 => ⟨S_, .i32⟩
  | 73 => ⟨S4096x1, .i32⟩
  | 74 => ⟨S4096x1, .i32⟩
  | 75 => ⟨S4096x1, .i32⟩
  | 76 => ⟨S_, .i32⟩
  | 77 => ⟨S4096x3, .i32⟩
  | 78 => ⟨S4096x3, .i1⟩
  | 79 => ⟨S_, .i32⟩
  | 80 => ⟨S4096x3, .i32⟩
  | 81 => ⟨S4096x3, .i32⟩
  | 82 => ⟨S4096x3, .i32⟩
  | 83 => ⟨S4096x3, .i32⟩
  | 84 => ⟨S4096x3x1, .i32⟩
  | 85 => ⟨S4096x3x1, .i32⟩
  | 86 => ⟨S4096x3x2, .i32⟩
  | 87 => ⟨S_, .i1⟩
  | 88 => ⟨S4096x3, .i1⟩
  | 89 => ⟨S4096x1008, .i1⟩
  | 90 => ⟨S1008x4096, .i1⟩
  | 91 => ⟨S1008x4096, .i1⟩
  | 92 => ⟨S1008x4096, .i1⟩
  | 93 => ⟨S_, .f32⟩
  | 94 => ⟨S1008x4096, .f32⟩
  | 95 => ⟨S1008x4096, .i1⟩
  | 96 => ⟨S1008x4096, .i1⟩
  | 97 => ⟨S_, .f32⟩
  | 98 => ⟨S_, .f32⟩
  | 99 => ⟨S1008x4096, .f32⟩
  | 100 => ⟨S1008x4096, .f32⟩
  | 101 => ⟨S4128768, .f32⟩
  | 102 => ⟨S256, .f32⟩
  | 103 => ⟨S256, .i32⟩
  | 104 => ⟨S_, .i32⟩
  | 105 => ⟨S_, .i32⟩
  | 106 => ⟨S256, .i32⟩
  | 107 => ⟨S256, .i32⟩
  | 108 => ⟨S256, .i32⟩
  | 109 => ⟨S_, .i32⟩
  | 110 => ⟨S256, .i32⟩
  | 111 => ⟨S256, .i1⟩
  | 112 => ⟨S256, .i32⟩
  | 113 => ⟨S256, .i32⟩
  | 114 => ⟨S_, .i32⟩
  | 115 => ⟨S256, .i32⟩
  | 116 => ⟨S256, .i1⟩
  | 117 => ⟨S256, .i1⟩
  | 118 => ⟨S_, .i32⟩
  | 119 => ⟨S256, .i32⟩
  | 120 => ⟨S256, .i32⟩
  | 121 => ⟨S256, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1008x256, .f32⟩

abbrev hbmTy0_1 (i : Nat) : BufTy := match i % 128 with
  | 0 => ⟨S256, .i32⟩
  | 1 => ⟨S256, .i32⟩
  | 2 => ⟨S_, .i32⟩
  | 3 => ⟨S256, .i32⟩
  | 4 => ⟨S256, .i1⟩
  | 5 => ⟨S_, .i32⟩
  | 6 => ⟨S256, .i32⟩
  | 7 => ⟨S256, .i1⟩
  | 8 => ⟨S_, .i32⟩
  | 9 => ⟨S_, .i1⟩
  | 10 => ⟨S256, .i1⟩
  | 11 => ⟨S256, .i1⟩
  | 12 => ⟨S256, .i1⟩
  | 13 => ⟨S256, .i32⟩
  | 14 => ⟨S256, .i32⟩
  | 15 => ⟨S256, .i32⟩
  | _ => ⟨S1008x256, .f32⟩

abbrev hbmTy (i : Nat) : BufTy := match i / 128 with
  | 0 => hbmTy0_0 i
  | 1 => hbmTy0_1 i
  | _ => ⟨S1008x256, .f32⟩

abbrev bufTy : (tb : Table) → Fin (tcTables nBuf tb) → BufTy
  | .hbm, ⟨i, _⟩ => hbmTy i
  | _, _ => ⟨S1008x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_values : Ref sig .tc := ⟨.hbm, 35, rfl⟩
abbrev main_indices : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_values_7 : Ref sig .tc := ⟨.hbm, 63, rfl⟩
abbrev main_indices_8 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_10 : Ref sig .tc := ⟨.hbm, 69, rfl⟩
abbrev main_v41 : Ref sig .tc := ⟨.hbm, 70, rfl⟩
abbrev main_v42 : Ref sig .tc := ⟨.hbm, 71, rfl⟩
abbrev main_c_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_12 : Ref sig .tc := ⟨.hbm, 76, rfl⟩
abbrev main_v46 : Ref sig .tc := ⟨.hbm, 77, rfl⟩
abbrev main_v47 : Ref sig .tc := ⟨.hbm, 78, rfl⟩
abbrev main_c_13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_16 : Ref sig .tc := ⟨.hbm, 97, rfl⟩
abbrev main_call3_v0 : Ref sig .tc := ⟨.hbm, 98, rfl⟩
abbrev main_call3_v1 : Ref sig .tc := ⟨.hbm, 99, rfl⟩
abbrev main_v63 : Ref sig .tc := ⟨.hbm, 100, rfl⟩
abbrev main_v64 : Ref sig .tc := ⟨.hbm, 101, rfl⟩
abbrev main_values_17 : Ref sig .tc := ⟨.hbm, 102, rfl⟩
abbrev main_indices_18 : Ref sig .tc := ⟨.hbm, 103, rfl⟩
abbrev main_c_19 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_c : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_0 : Ref sig .tc := ⟨.hbm, 118, rfl⟩
abbrev main_call4_v12 : Ref sig .tc := ⟨.hbm, 119, rfl⟩
abbrev main_call4_v13 : Ref sig .tc := ⟨.hbm, 120, rfl⟩
abbrev main_v65 : Ref sig .tc := ⟨.hbm, 121, rfl⟩
abbrev main_c_20 : Ref sig .tc := ⟨.hbm, 122, rfl⟩
abbrev main_call5_v0 : Ref sig .tc := ⟨.hbm, 123, rfl⟩
abbrev main_call5_c : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_c_1 : Ref sig .tc := ⟨.hbm, 130, rfl⟩
abbrev main_call5_v5 : Ref sig .tc := ⟨.hbm, 131, rfl⟩
abbrev main_call5_v6 : Ref sig .tc := ⟨.hbm, 132, rfl⟩
abbrev main_call5_c_2 : Ref sig .tc := ⟨.hbm, 133, rfl⟩
abbrev main_call5_v7 : Ref sig .tc := ⟨.hbm, 134, rfl⟩
abbrev main_call5_v8 : Ref sig .tc := ⟨.hbm, 135, rfl⟩
abbrev main_call5_c_3 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_v12 : Ref sig .tc := ⟨.hbm, 140, rfl⟩
abbrev main_call5_v13 : Ref sig .tc := ⟨.hbm, 141, rfl⟩
abbrev main_call5_v14 : Ref sig .tc := ⟨.hbm, 142, rfl⟩
abbrev main_v66 : Ref sig .tc := ⟨.hbm, 143, rfl⟩

abbrev nD : Nat := 1
abbrev τ : Topo := Topo.v7x

variable {F : FTy → Type} [FloatOps F]
-- ==== Proof.Ranks.lean ====
/-
  Ranks of the entries of a finite family of extended reals: entry `j` comes before entry `i` when it is greater,
  or equal at a lower position. A stable descending sort puts at position `r` the entry that exactly `r` entries come before.
-/
module

public import Idealize.ShloMosaic.Lib.SortFacts
public import Mathlib.Data.EReal.Basic

@[expose] public section

noncomputable section

namespace Cert.Ranks

open Idealize.ShloMosaic

variable {n : Nat}

/-- Entry `j` comes before entry `i`: greater, or equal at a lower position. -/
def Beats (x : Fin n → EReal) (j i : Fin n) : Prop := x i < x j ∨ (x j = x i ∧ j < i)

instance (x : Fin n → EReal) (i : Fin n) : DecidablePred fun j => Beats x j i := fun _ => Classical.propDecidable _

/-- The entries that come before entry `i`. -/
def before (x : Fin n → EReal) (i : Fin n) : Finset (Fin n) := Finset.univ.filter fun j => Beats x j i

/-- How many entries come before entry `i`. -/
def rank (x : Fin n → EReal) (i : Fin n) : Nat := (before x i).card

/-- Membership in the entries before `i`. -/
theorem mem_before {x : Fin n → EReal} {i j : Fin n} : j ∈ before x i ↔ Beats x j i := by simp [before]

/-- No entry comes before itself. -/
theorem beats_irrefl (x : Fin n → EReal) (i : Fin n) : ¬ Beats x i i := by simp [Beats]

/-- Coming before is transitive. -/
theorem beats_trans {x : Fin n → EReal} {a b c : Fin n} (h : Beats x a b) (h' : Beats x b c) : Beats x a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

/-- Of two different entries one comes before the other. -/
theorem beats_total (x : Fin n → EReal) {a b : Fin n} (h : a ≠ b) : Beats x a b ∨ Beats x b a := by
  rcases lt_trichotomy (x a) (x b) with h' | h' | h'
  · exact Or.inr (Or.inl h')
  · rcases lt_or_gt_of_ne h with h'' | h''
    · exact Or.inl (Or.inr ⟨h', h''⟩)
    · exact Or.inr (Or.inr ⟨h'.symm, h''⟩)
  · exact Or.inl (Or.inl h')

/-- An entry before another has the lower rank. -/
theorem rank_lt_of_beats {x : Fin n → EReal} {a b : Fin n} (h : Beats x a b) : rank x a < rank x b := by
  refine Finset.card_lt_card ((Finset.ssubset_iff_of_subset fun c hc => ?_).mpr ⟨a, ?_, ?_⟩)
  · exact mem_before.mpr (beats_trans (mem_before.mp hc) h)
  · exact mem_before.mpr h
  · exact fun h' => beats_irrefl x a (mem_before.mp h')

/-- The lower rank is exactly coming before. -/
theorem rank_lt_iff {x : Fin n → EReal} {a b : Fin n} : rank x a < rank x b ↔ Beats x a b := by
  refine ⟨fun h => ?_, rank_lt_of_beats⟩
  rcases eq_or_ne a b with rfl | hab
  · exact absurd h (lt_irrefl _)
  · exact (beats_total x hab).resolve_right fun h' => absurd (rank_lt_of_beats h') (by omega)

/-- Different entries have different ranks. -/
theorem rank_injective (x : Fin n → EReal) : Function.Injective (rank x) := by
  intro a b h
  by_contra hab
  rcases beats_total x hab with h' | h' <;> have := rank_lt_of_beats h' <;> omega

/-- A stable descending sort leaves every entry before the entries that come after it. -/
theorem pairwise_stableSort_beats (x : Fin n → EReal) (B : Fin n → Fin n → Bool) (hB : ∀ a b, B a b = true ↔ x b < x a) (l : List (Fin n))
    (hl : l.Pairwise (· < ·)) : (stableSort B l).Pairwise (Beats x) := by
  induction l with
  | nil => exact List.Pairwise.nil
  | cons a l ih =>
    obtain ⟨ha, hl'⟩ := List.pairwise_cons.mp hl
    have ih := ih hl'
    have hm : ∀ b ∈ stableSort B l, a < b := fun b hb => ha b ((perm_stableSort B l).mem_iff.mp hb)
    unfold stableSort
    generalize stableSort B l = s at ih hm
    induction s with
    | nil => exact List.pairwise_singleton _ _
    | cons b s ihs =>
      obtain ⟨hb, hs⟩ := List.pairwise_cons.mp ih
      unfold insertBefore
      split
      · next h =>
        refine List.pairwise_cons.mpr ⟨fun c hc => ?_, ihs hs fun c hc => hm c (List.mem_cons_of_mem _ hc)⟩
        rcases List.mem_cons.mp ((perm_insertBefore B a s).mem_iff.mp hc) with rfl | hc
        · exact Or.inl ((hB _ _).mp h)
        · exact hb c hc
      · next h =>
        refine List.pairwise_cons.mpr ⟨fun c hc => ?_, ih⟩
        have hle : x b ≤ x a := not_lt.mp fun h' => h ((hB _ _).mpr h')
        have hac := hm c hc
        have hcb : x c ≤ x b := by
          rcases List.mem_cons.mp hc with rfl | hc
          · exact le_rfl
          · rcases hb c hc with h' | ⟨h', -⟩
            · exact h'.le
            · exact h'.symm.le
        rcases (hcb.trans hle).lt_or_eq with h' | h'
        · exact Or.inl h'
        · exact Or.inr ⟨h'.symm, hac⟩

/-- Position `r` of a stable descending sort holds the entry of rank `r`. -/
theorem rank_sortedFrom (x : Fin n → EReal) (B : Fin n → Fin n → Bool) (hB : ∀ a b, B a b = true ↔ x b < x a) (r : Fin n) :
    rank x (sortedFrom B r) = r.val := by
  have hmono : ∀ a b : Fin n, a < b → Beats x (sortedFrom B a) (sortedFrom B b) := by
    intro a b hab
    have := pairwise_stableSort_beats x B hB _ (List.pairwise_lt_finRange n)
    exact List.pairwise_iff_getElem.mp this _ _ _ _ hab
  have hset : before x (sortedFrom B r) = (Finset.univ.filter fun a => a < r).image (sortedFrom B) := by
    ext j
    rw [mem_before, Finset.mem_image]
    constructor
    · intro h
      obtain ⟨a, rfl⟩ := sortedFrom_surjective B j
      refine ⟨a, by
        rw [Finset.mem_filter]
        refine ⟨Finset.mem_univ _, not_le.mp fun hra => ?_⟩
        rcases hra.lt_or_eq with h' | rfl
        · exact beats_irrefl x _ (beats_trans h (hmono _ _ h'))
        · exact beats_irrefl x _ h, rfl⟩
    · rintro ⟨a, ha, rfl⟩
      exact hmono a r (Finset.mem_filter.mp ha).2
  rw [rank, hset, Finset.card_image_of_injective _ (sortedFrom_injective B)]
  have : (Finset.univ.filter fun a : Fin n => a < r) = Finset.Iio r := by ext; simp
  rw [this, Fin.card_Iio]

/-- The entry of rank `r`. -/
def pick (x : Fin n → EReal) (r : Fin n) : Fin n := sortedFrom (fun a b => @decide (x b < x a) (Classical.propDecidable _)) r

/-- The entry of rank `r` has rank `r`. -/
theorem rank_pick (x : Fin n → EReal) (r : Fin n) : rank x (pick x r) = r.val :=
  rank_sortedFrom x _ (fun a b => by simp) r

/-- An entry of rank `r` is the picked one. -/
theorem eq_pick_of_rank {x : Fin n → EReal} {r i : Fin n} (h : rank x i = r.val) : i = pick x r :=
  rank_injective x (h.trans (rank_pick x r).symm)

/-- Position `r` of a stable descending sort is the picked entry. -/
theorem sortedFrom_eq_pick (x : Fin n → EReal) (B : Fin n → Fin n → Bool) (hB : ∀ a b, B a b = true ↔ x b < x a) (r : Fin n) :
    sortedFrom B r = pick x r := eq_pick_of_rank (rank_sortedFrom x B hB r)

/-- An entry is among the first `k` picked exactly when its rank is below `k`. -/
theorem exists_pick_iff (x : Fin n → EReal) {k : Nat} (hk : k ≤ n) (i : Fin n) :
    (∃ t : Fin k, pick x (t.castLE hk) = i) ↔ rank x i < k := by
  constructor
  · rintro ⟨t, rfl⟩
    rw [rank_pick]
    exact t.isLt
  · intro h
    exact ⟨⟨rank x i, h⟩, (eq_pick_of_rank rfl).symm⟩

/-! ## Picking by repeated maximum -/

/-- The family with the entries of rank below `t` overwritten by `low`. -/
def removed (x : Fin n → EReal) (low : EReal) (t : Nat) (j : Fin n) : EReal := if rank x j < t then low else x j

/-- Nothing is overwritten at first. -/
theorem removed_zero (x : Fin n → EReal) (low : EReal) : removed x low 0 = x := by funext j; simp [removed]

/-- Overwriting the picked entry goes on to the next round. -/
theorem removed_succ (x : Fin n → EReal) (low : EReal) (t j : Fin n) :
    (if j = pick x t then low else removed x low t.val j) = removed x low (t.val + 1) j := by
  unfold removed
  by_cases hj : j = pick x t
  · subst hj; simp [rank_pick]
  · have : rank x j ≠ t.val := fun h => hj (eq_pick_of_rank h)
    rw [if_neg hj]
    by_cases h : rank x j < t.val
    · rw [if_pos h, if_pos (by omega)]
    · rw [if_neg h, if_neg (by omega)]

/-- The picked entry is still there in its own round. -/
theorem removed_pick (x : Fin n → EReal) (low : EReal) (t : Fin n) : removed x low t.val (pick x t) = x (pick x t) := by
  simp [removed, rank_pick]

/-- In round `t` the picked entry is the greatest. -/
theorem removed_le (x : Fin n → EReal) (low : EReal) (hlow : ∀ j, low < x j) (t j : Fin n) : removed x low t.val j ≤ x (pick x t) := by
  unfold removed
  split
  · exact (hlow _).le
  · next h =>
    by_cases hj : j = pick x t
    · rw [hj]
    · have : Beats x (pick x t) j := rank_lt_iff.mp (by
        rw [rank_pick]
        exact lt_of_le_of_ne (not_lt.mp h) fun h' => hj (eq_pick_of_rank h'.symm))
      rcases this with h' | ⟨h', -⟩
      · exact h'.le
      · exact h'.symm.le

/-- In round `t` every entry as great as the picked one stands at or after it. -/
theorem pick_le (x : Fin n → EReal) (low : EReal) (hlow : ∀ j, low < x j) (t j : Fin n) (h : removed x low t.val j = x (pick x t)) :
    pick x t ≤ j := by
  by_contra hj
  rw [not_le] at hj
  unfold removed at h
  split at h
  · exact absurd h (hlow _).ne
  · next h' =>
    have hb : Beats x j (pick x t) := Or.inr ⟨h, hj⟩
    have := rank_lt_of_beats hb
    rw [rank_pick] at this
    exact h' this

end Cert.Ranks

end
-- ==== Proof.Select.lean ====
/-
  Selecting from a short list of candidates. A family `F` is represented by a list of candidates, each live candidate standing for one
  entry of `F`, the others holding a value below every entry. If every entry that no live candidate stands for comes after all the live ones,
  then the candidates of the first ranks are the entries of the first ranks.
-/
module

public import proofs.«01_k».proof.Proof.Ranks

@[expose] public section

noncomputable section

namespace Cert.Select

open Cert.Ranks

variable {N C : Nat}

/-- Candidate `c'` comes before candidate `c`: greater value, or equal value at a lower flat position. -/
def CBeats (v : Fin C → EReal) (f : Fin C → Nat) (c' c : Fin C) : Prop := v c < v c' ∨ (v c' = v c ∧ f c' < f c)

instance (v : Fin C → EReal) (f : Fin C → Nat) (c : Fin C) : DecidablePred fun c' => CBeats v f c' c := fun _ => Classical.propDecidable _

/-- How many candidates come before candidate `c`. -/
def crank (v : Fin C → EReal) (f : Fin C → Nat) (c : Fin C) : Nat := (Finset.univ.filter fun c' => CBeats v f c' c).card

open Classical in
/-- For every rank below `K`, where at least `K` candidates are live, exactly one candidate has that rank, and it stands for the entry of that rank. -/
theorem select_spec (F : Fin N → EReal) (v : Fin C → EReal) (f : Fin C → Nat) (live : Fin C → Prop) (φ : Fin C → Fin N) (dead : EReal) (K : Nat)
    (hlive : ∀ c, live c → v c = F (φ c) ∧ f c = (φ c).val) (hinj : ∀ c c', live c → live c' → φ c = φ c' → c = c')
    (hdead : ∀ c, ¬ live c → v c = dead) (hF : ∀ n, dead < F n) (hout : ∀ n, (∀ c, live c → φ c ≠ n) → ∀ c, live c → Beats F (φ c) n)
    (hmany : K ≤ (Finset.univ.filter live).card) (r : Fin N) (hr : r.val < K) :
    ∃ c, v c = F (pick F r) ∧ f c = (pick F r).val ∧ ∀ c', crank v f c' = r.val ↔ c' = c := by
  have h1 : ∀ c, live c → crank v f c = rank F (φ c) := by
    intro c hc
    have hset : before F (φ c) = (Finset.univ.filter fun c' => CBeats v f c' c).image φ := by
      ext n
      rw [mem_before, Finset.mem_image]
      constructor
      · intro h
        by_cases hn : ∀ c, live c → φ c ≠ n
        · exact absurd (beats_trans h (hout n hn c hc)) (beats_irrefl F _)
        · push Not at hn
          obtain ⟨c', hc', rfl⟩ := hn
          refine ⟨c', Finset.mem_filter.mpr ⟨Finset.mem_univ _, ?_⟩, rfl⟩
          unfold CBeats
          rw [(hlive c hc).1, (hlive c hc).2, (hlive c' hc').1, (hlive c' hc').2]
          exact h
      · rintro ⟨c', h, rfl⟩
        have h := (Finset.mem_filter.mp h).2
        by_cases hc' : live c'
        · unfold CBeats at h
          rw [(hlive c hc).1, (hlive c hc).2, (hlive c' hc').1, (hlive c' hc').2] at h
          exact h
        · unfold CBeats at h
          rw [(hlive c hc).1, hdead c' hc'] at h
          have := hF (φ c)
          rcases h with h | ⟨h, -⟩
          · exact absurd h (not_lt.mpr this.le)
          · exact absurd h this.ne
    have hinj' : Set.InjOn φ (Finset.univ.filter fun c' => CBeats v f c' c) := by
      have hl : ∀ c', CBeats v f c' c → live c' := by
        intro c' h
        by_contra hc'
        unfold CBeats at h
        rw [(hlive c hc).1, hdead c' hc'] at h
        have := hF (φ c)
        rcases h with h | ⟨h, -⟩
        · exact absurd h (not_lt.mpr this.le)
        · exact absurd h this.ne
      intro a ha b hb hab
      simp only [Finset.coe_filter, Finset.mem_univ, true_and, Set.mem_setOf_eq] at ha hb
      exact hinj a b (hl a ha) (hl b hb) hab
    rw [rank, hset, Finset.card_image_of_injOn hinj', crank]
  have h2 : ∀ c, ¬ live c → K ≤ crank v f c := by
    intro c hc
    refine hmany.trans (Finset.card_le_card fun c' hc' => ?_)
    have hc' := (Finset.mem_filter.mp hc').2
    refine Finset.mem_filter.mpr ⟨Finset.mem_univ _, Or.inl ?_⟩
    rw [(hlive c' hc').1, hdead c hc]
    exact hF _
  have h3 : ∃ c, live c ∧ φ c = pick F r := by
    by_contra hn
    push Not at hn
    have : (Finset.univ.filter live).card ≤ rank F (pick F r) := by
      rw [rank, ← Finset.card_image_of_injOn (s := Finset.univ.filter live) (f := φ) (by
        intro a ha b hb hab
        simp only [Finset.coe_filter, Finset.mem_univ, true_and, Set.mem_setOf_eq] at ha hb
        exact hinj a b ha hb hab)]
      refine Finset.card_le_card fun n hn' => ?_
      obtain ⟨c, hc, rfl⟩ := Finset.mem_image.mp hn'
      exact mem_before.mpr (hout _ hn c (Finset.mem_filter.mp hc).2)
    rw [rank_pick] at this
    omega
  obtain ⟨c, hc, hφ⟩ := h3
  refine ⟨c, by rw [(hlive c hc).1, hφ], by rw [(hlive c hc).2, hφ], fun c' => ⟨fun h => ?_, ?_⟩⟩
  · have hc' : live c' := by
      by_contra hn
      have := h2 c' hn
      omega
    refine hinj c' c hc' hc ?_
    rw [hφ]
    exact eq_pick_of_rank ((h1 c' hc').symm.trans h)
  · rintro rfl
    rw [h1 _ hc, hφ, rank_pick]

end Cert.Select

end
-- ==== Proof.Mutual.lean ====
/-
  The mathematics of the mutual selection, on matrices of extended reals. `M` is the masked score matrix; an entry is mutual when it is
  positive and among the three first of its row and of its column. The candidate list (three per row of the matrix padded below with a
  dead value, and 512 fillers) yields the 256 first entries of the flat list of mutual scores, where no column has a fourth positive entry
  as great as its third.
-/
module

public import proofs.«01_k».proof.Proof.Select

@[expose] public section

noncomputable section

namespace Cert.Mutual

open Cert.Ranks Cert.Select

/-- Entry `(i, j)` is positive and among the three first of its row and of its column. -/
def Mut (M : Fin 1008 → Fin 4096 → EReal) (i : Fin 1008) (j : Fin 4096) : Prop :=
  rank (M i) j < 3 ∧ rank (fun a => M a j) i < 3 ∧ 0 < M i j

/-- The row of a flat position. -/
def rowOf (n : Fin 4128768) : Fin 1008 := ⟨n.val / 4096, by omega⟩

/-- The column of a flat position. -/
def colOf (n : Fin 4128768) : Fin 4096 := ⟨n.val % 4096, by omega⟩

open Classical in
/-- The flat list: the mutual entries' scores, `low` elsewhere. -/
def flat (M : Fin 1008 → Fin 4096 → EReal) (low : EReal) (n : Fin 4128768) : EReal :=
  if Mut M (rowOf n) (colOf n) then M (rowOf n) (colOf n) else low

/-- No column has a fourth positive entry as great as its third. -/
def NoTie (M : Fin 1008 → Fin 4096 → EReal) : Prop := ∀ j, ∀ s : Finset (Fin 1008),
  (∀ i ∈ s, M (pick (fun a => M a j) 2) j ≤ M i j ∧ 0 < M i j) → s.card ≤ 3

/-- The matrix padded below with dead rows. -/
def padded (M : Fin 1008 → Fin 4096 → EReal) (dead : EReal) (i : Fin 1024) (j : Fin 4096) : EReal :=
  if h : i.val < 1008 then M ⟨i.val, h⟩ j else dead

/-- Entry `(i, j)` is positive and at least the third value of its column. -/
def ok (S : Fin 1024 → Fin 4096 → EReal) (i : Fin 1024) (j : Fin 4096) : Prop :=
  S (pick (fun a => S a j) 2) j ≤ S i j ∧ 0 < S i j

/-- The column of row `i`'s entry of rank `t`. -/
def rowPick (S : Fin 1024 → Fin 4096 → EReal) (i : Fin 1024) (t : Fin 3) : Fin 4096 := pick (S i) (t.castLE (by omega))

/-- Row `i`'s entry of rank `t` passes its column's test. -/
def flag (S : Fin 1024 → Fin 4096 → EReal) (t : Fin 3) (i : Fin 1024) : Prop := ok S i (rowPick S i t)

/-- Which of the row's three entries candidate `c` is. -/
def rnd (c : Fin 3584) (h : c.val < 3072) : Fin 3 := ⟨c.val / 1024, by omega⟩

/-- The row of candidate `c`. -/
def row (c : Fin 3584) : Fin 1024 := ⟨c.val % 1024, by omega⟩

/-- Flat position `n` of row 0 is one of the flagged entries of that row. -/
def taken (S : Fin 1024 → Fin 4096 → EReal) (n : Nat) : Prop := ∃ t : Fin 3, (rowPick S 0 t).val = n ∧ flag S t 0

/-- Candidate `c` stands for an entry. -/
def live (S : Fin 1024 → Fin 4096 → EReal) (c : Fin 3584) : Prop :=
  if h : c.val < 3072 then flag S (rnd c h) (row c) else ¬ taken S (c.val - 3072)

open Classical in
/-- The value of candidate `c`. -/
def candV (S : Fin 1024 → Fin 4096 → EReal) (low dead : EReal) (c : Fin 3584) : EReal :=
  if live S c then (if h : c.val < 3072 then S (row c) (rowPick S (row c) (rnd c h)) else low) else dead

/-- The flat position of candidate `c`. -/
def candF (S : Fin 1024 → Fin 4096 → EReal) (c : Fin 3584) : Nat :=
  if h : c.val < 3072 then (row c).val * 4096 + (rowPick S (row c) (rnd c h)).val else c.val - 3072

/-! ## Columns -/

/-- Padding a column below with a dead value keeps the rank of a positive entry. -/
theorem rank_pad {dead : EReal} (hd : dead < 0) (x : Fin 1008 → EReal) (x' : Fin 1024 → EReal)
    (hx : ∀ i : Fin 1024, x' i = if h : i.val < 1008 then x ⟨i.val, h⟩ else dead) (i : Fin 1008) (hi : 0 < x i) :
    rank x' (i.castLE (by omega)) = rank x i := by
  have hc : ∀ k : Fin 1008, x' (k.castLE (by omega)) = x k := fun k => by rw [hx]; simp
  rw [rank, rank, ← Finset.card_image_of_injective (before x i) (Fin.castLE_injective (show 1008 ≤ 1024 by omega))]
  congr 1
  ext k
  rw [mem_before, Finset.mem_image]
  constructor
  · intro h
    by_cases hk : k.val < 1008
    · have hk' : k = (⟨k.val, hk⟩ : Fin 1008).castLE (by omega) := rfl
      refine ⟨⟨k.val, hk⟩, mem_before.mpr ?_, rfl⟩
      rw [hk'] at h
      unfold Beats at h ⊢
      rw [hc, hc] at h
      exact h
    · unfold Beats at h
      rw [hc, hx k, dif_neg hk] at h
      rcases h with h | ⟨h, -⟩
      · exact absurd (h.trans hd) (not_lt.mpr hi.le)
      · exact absurd (h ▸ hi) (not_lt.mpr hd.le)
  · rintro ⟨k, hk, rfl⟩
    have hk := mem_before.mp hk
    unfold Beats at hk ⊢
    rw [hc, hc]
    exact hk

/-- The first-ranked entries are at least the later ones. -/
theorem le_of_rank_le {n : Nat} {x : Fin n → EReal} {a b : Fin n} (h : rank x a ≤ rank x b) : x b ≤ x a := by
  rcases h.lt_or_eq with h | h
  · rcases rank_lt_iff.mp h with h | ⟨h, -⟩
    · exact h.le
    · exact h.symm.le
  · rw [rank_injective x h]

/-- Where no fourth positive entry is as great as the third, a positive entry as great as the third is among the three first. -/
theorem rank_lt_three (x : Fin 1008 → EReal) (hs : ∀ s : Finset (Fin 1008), (∀ i ∈ s, x (pick x 2) ≤ x i ∧ 0 < x i) → s.card ≤ 3)
    (i : Fin 1008) (h1 : x (pick x 2) ≤ x i) (h2 : 0 < x i) : rank x i < 3 := by
  have := hs (insert i (before x i)) (fun k hk => by
    rcases Finset.mem_insert.mp hk with h | h
    · rw [h]; exact ⟨h1, h2⟩
    · have hle : x i ≤ x k := le_of_rank_le (rank_lt_of_beats (mem_before.mp h)).le
      exact ⟨h1.trans hle, h2.trans_le hle⟩)
  rw [Finset.card_insert_of_notMem fun h => beats_irrefl x i (mem_before.mp h)] at this
  exact this

/-- The column test on the padded matrix is: a real row, among the three first of its column, and positive. -/
theorem ok_padded_iff {dead : EReal} (hd : dead < 0) (M : Fin 1008 → Fin 4096 → EReal) (hM : NoTie M) (i : Fin 1024) (j : Fin 4096) :
    ok (padded M dead) i j ↔ ∃ h : i.val < 1008, rank (fun a => M a j) ⟨i.val, h⟩ < 3 ∧ 0 < M ⟨i.val, h⟩ j := by
  have hx : ∀ k : Fin 1024, (fun a => padded M dead a j) k = if h : k.val < 1008 then (fun a => M a j) ⟨k.val, h⟩ else dead := fun k => rfl
  have hr := rank_pad hd (fun a => M a j) (fun a => padded M dead a j) hx
  by_cases hi : i.val < 1008
  swap
  · constructor
    · rintro ⟨-, h⟩
      unfold padded at h
      rw [dif_neg hi] at h
      exact absurd h (not_lt.mpr hd.le)
    · rintro ⟨h, -⟩
      exact absurd h hi
  have hv : padded M dead i j = M ⟨i.val, hi⟩ j := by unfold padded; rw [dif_pos hi]
  have hi' : (⟨i.val, hi⟩ : Fin 1008).castLE (by omega) = i := rfl
  unfold ok
  rw [hv]
  constructor
  · rintro ⟨h1, h2⟩
    refine ⟨hi, ?_, h2⟩
    by_contra hlt
    rw [not_lt] at hlt
    have hpos : ∀ t : Fin 1008, t.val < 3 → M ⟨i.val, hi⟩ j ≤ M (pick (fun a => M a j) t) j := fun t ht => by
      have := le_of_rank_le (x := fun a => M a j) (a := pick (fun a => M a j) t) (b := ⟨i.val, hi⟩) (by rw [rank_pick]; omega)
      exact this
    have hthird : pick (fun a => padded M dead a j) 2 = (pick (fun a => M a j) 2).castLE (by omega) := by
      refine (eq_pick_of_rank ?_).symm
      rw [hr _ (h2.trans_le (hpos 2 (by decide))), rank_pick]
      rfl
    have h1' : M (pick (fun a => M a j) 2) j ≤ M ⟨i.val, hi⟩ j := by
      have e : padded M dead (pick (fun a => padded M dead a j) 2) j = M (pick (fun a => M a j) 2) j := by
        rw [hthird]; unfold padded; simp
      rw [← e]; exact h1
    have := rank_lt_three (fun a => M a j) (hM j) ⟨i.val, hi⟩ h1' h2
    omega
  · rintro ⟨_, h1, h2⟩
    refine ⟨?_, h2⟩
    have h := le_of_rank_le (x := fun a => padded M dead a j) (a := i) (b := pick (fun a => padded M dead a j) 2) (by
      rw [rank_pick, ← hi', hr _ h2]
      have : ((2 : Fin 1024)).val = 2 := rfl
      omega)
    exact hv ▸ h

/-! ## Rows and the flat list -/

variable {M : Fin 1008 → Fin 4096 → EReal} {low dead : EReal}

/-- A real row of the padded matrix is the row of the matrix. -/
theorem padded_row (i : Fin 1024) (h : i.val < 1008) : padded M dead i = M ⟨i.val, h⟩ := by
  funext j; unfold padded; rw [dif_pos h]

/-- A flagged entry of a row is mutual, in a real row. -/
theorem flag_iff (hd : dead < 0) (hM : NoTie M) (t : Fin 3) (i : Fin 1024) :
    flag (padded M dead) t i ↔ ∃ h : i.val < 1008, Mut M ⟨i.val, h⟩ (rowPick (padded M dead) i t) := by
  unfold flag Mut
  rw [ok_padded_iff hd M hM]
  refine exists_congr fun h => ?_
  have : rank (M ⟨i.val, h⟩) (rowPick (padded M dead) i t) < 3 := by
    unfold rowPick
    rw [padded_row i h, rank_pick]
    exact t.isLt
  tauto

/-- Every mutual entry is one of its row's three. -/
theorem exists_rowPick (i : Fin 1024) (h : i.val < 1008) (j : Fin 4096) (hm : Mut M ⟨i.val, h⟩ j) :
    ∃ t : Fin 3, rowPick (padded M dead) i t = j := by
  unfold rowPick
  rw [padded_row i h]
  exact (exists_pick_iff _ (by omega) j).mpr hm.1

/-- A row's three entries are different. -/
theorem rowPick_injective (S : Fin 1024 → Fin 4096 → EReal) (i : Fin 1024) : Function.Injective (rowPick S i) := by
  intro a b h
  have := congrArg (rank (S i)) h
  unfold rowPick at this
  rw [rank_pick, rank_pick] at this
  exact Fin.ext this

/-- The entry of the flat list a candidate stands for. -/
def pos (S : Fin 1024 → Fin 4096 → EReal) (c : Fin 3584) : Fin 4128768 := ⟨candF S c % 4128768, Nat.mod_lt _ (by omega)⟩

/-- A row and a column of the matrix as a flat position. -/
def at' (i : Fin 1008) (j : Fin 4096) : Fin 4128768 := ⟨i.val * 4096 + j.val, by omega⟩

/-- The row of the flat position. -/
theorem rowOf_at (i : Fin 1008) (j : Fin 4096) : rowOf (at' i j) = i := Fin.ext (by simp only [rowOf, at']; omega)

/-- The column of the flat position. -/
theorem colOf_at (i : Fin 1008) (j : Fin 4096) : colOf (at' i j) = j := Fin.ext (by simp only [colOf, at']; omega)

/-- Every flat position is that of its row and column. -/
theorem at_rowOf_colOf (n : Fin 4128768) : at' (rowOf n) (colOf n) = n := Fin.ext (by simp only [rowOf, colOf, at']; omega)

/-- The flat list at a mutual entry. -/
theorem flat_of_mut {n : Fin 4128768} (h : Mut M (rowOf n) (colOf n)) : flat M low n = M (rowOf n) (colOf n) := if_pos h

/-- The flat list elsewhere. -/
theorem flat_of_not_mut {n : Fin 4128768} (h : ¬ Mut M (rowOf n) (colOf n)) : flat M low n = low := if_neg h

/-- A live candidate of a row stands for the mutual entry of that row. -/
theorem live_row (hd : dead < 0) (hM : NoTie M) (c : Fin 3584) (hc : c.val < 3072) (hl : live (padded M dead) c) :
    ∃ h : (row c).val < 1008, Mut M ⟨(row c).val, h⟩ (rowPick (padded M dead) (row c) (rnd c hc))
      ∧ candF (padded M dead) c = (at' ⟨(row c).val, h⟩ (rowPick (padded M dead) (row c) (rnd c hc))).val
      ∧ pos (padded M dead) c = at' ⟨(row c).val, h⟩ (rowPick (padded M dead) (row c) (rnd c hc)) := by
  unfold live at hl
  rw [dif_pos hc] at hl
  obtain ⟨h, hm⟩ := (flag_iff hd hM _ _).mp hl
  have hF : candF (padded M dead) c = (at' ⟨(row c).val, h⟩ (rowPick (padded M dead) (row c) (rnd c hc))).val := by
    unfold candF
    rw [dif_pos hc]
    rfl
  exact ⟨h, hm, hF, Fin.ext (by
    show candF (padded M dead) c % 4128768 = _
    rw [hF, Nat.mod_eq_of_lt (Fin.isLt _)])⟩

/-- Row 0's taken positions are exactly its mutual entries. -/
theorem taken_iff (hd : dead < 0) (hM : NoTie M) (j : Fin 4096) : taken (padded M dead) j.val ↔ Mut M 0 j := by
  unfold taken
  constructor
  · rintro ⟨t, ht, hf⟩
    obtain ⟨h, hm⟩ := (flag_iff hd hM _ _).mp hf
    rw [Fin.ext ht] at hm
    exact hm
  · intro hm
    obtain ⟨t, ht⟩ := exists_rowPick (dead := dead) 0 (by decide) j hm
    refine ⟨t, by rw [ht], (flag_iff hd hM _ _).mpr ⟨by decide, ?_⟩⟩
    rw [ht]
    exact hm

/-- A live filler stands for a position of row 0 that is not mutual. -/
theorem live_fill (hd : dead < 0) (hM : NoTie M) (c : Fin 3584) (hc : ¬ c.val < 3072) (hl : live (padded M dead) c) :
    ∃ j : Fin 4096, j.val < 512 ∧ ¬ Mut M 0 j ∧ candF (padded M dead) c = (at' 0 j).val ∧ pos (padded M dead) c = at' 0 j ∧ c.val = 3072 + j.val := by
  unfold live at hl
  rw [dif_neg hc] at hl
  have hlt := c.isLt
  have hF : candF (padded M dead) c = (at' 0 ⟨c.val - 3072, by omega⟩).val := by
    unfold candF
    rw [dif_neg hc]
    show c.val - 3072 = (0 : Fin 1008).val * 4096 + (c.val - 3072)
    have : (0 : Fin 1008).val = 0 := rfl
    omega
  refine ⟨⟨c.val - 3072, by omega⟩, (by show c.val - 3072 < 512; omega), fun hm => hl ((taken_iff hd hM ⟨c.val - 3072, by omega⟩).mpr hm), hF, Fin.ext ?_, ?_⟩
  · show candF (padded M dead) c % 4128768 = _
    rw [hF, Nat.mod_eq_of_lt (Fin.isLt _)]
  · show c.val = 3072 + (c.val - 3072)
    omega

/-- Every mutual entry has a live candidate. -/
theorem exists_live_of_mut (hd : dead < 0) (hM : NoTie M) (n : Fin 4128768) (hm : Mut M (rowOf n) (colOf n)) :
    ∃ c, live (padded M dead) c ∧ pos (padded M dead) c = n := by
  have hr := (rowOf n).isLt
  obtain ⟨t, ht⟩ := exists_rowPick (dead := dead) ⟨(rowOf n).val, by omega⟩ hr (colOf n) hm
  have ht3 := t.isLt
  have hc : (⟨t.val * 1024 + (rowOf n).val, by omega⟩ : Fin 3584).val < 3072 := by show t.val * 1024 + (rowOf n).val < 3072; omega
  have hrow : row ⟨t.val * 1024 + (rowOf n).val, by omega⟩ = ⟨(rowOf n).val, by omega⟩ := Fin.ext (by
    show (t.val * 1024 + (rowOf n).val) % 1024 = (rowOf n).val; omega)
  have hrnd : rnd ⟨t.val * 1024 + (rowOf n).val, by omega⟩ hc = t := Fin.ext (by
    show (t.val * 1024 + (rowOf n).val) / 1024 = t.val; omega)
  have hl : live (padded M dead) ⟨t.val * 1024 + (rowOf n).val, by omega⟩ := by
    unfold live
    rw [dif_pos hc, hrow, hrnd, flag_iff hd hM, ht]
    exact ⟨hr, hm⟩
  refine ⟨_, hl, ?_⟩
  obtain ⟨h, -, -, hp⟩ := live_row hd hM _ hc hl
  rw [hp]
  have e : ∀ (i i' : Fin 1008) (j j' : Fin 4096), i = i' → j = j' → at' i j = at' i' j' := fun _ _ _ _ a b => by rw [a, b]
  refine (e _ (rowOf n) _ (colOf n) (Fin.ext ?_) ?_).trans (at_rowOf_colOf n)
  · show (row _).val = _
    rw [hrow]
  · rw [hrow, hrnd]
    exact ht

/-- A flat position that is not mutual and below 512 has a live filler. -/
theorem exists_live_of_lt (hd : dead < 0) (hM : NoTie M) (j : Fin 4096) (hj : j.val < 512) (hm : ¬ Mut M 0 j) :
    live (padded M dead) ⟨3072 + j.val, by omega⟩ := by
  have hc : ¬ (⟨3072 + j.val, by omega⟩ : Fin 3584).val < 3072 := by show ¬ 3072 + j.val < 3072; omega
  unfold live
  rw [dif_neg hc]
  have e : (⟨3072 + j.val, by omega⟩ : Fin 3584).val - 3072 = j.val := by show 3072 + j.val - 3072 = j.val; omega
  rw [e, taken_iff hd hM]
  exact hm

open Classical in
/-- At least 256 candidates are live: of the 512 fillers at most three are not. -/
theorem many_live (hd : dead < 0) (hM : NoTie M) : 256 ≤ (Finset.univ.filter (live (padded M dead))).card := by
  let e : Fin 512 → Fin 3584 := fun j => ⟨3072 + j.val, by omega⟩
  have he : Function.Injective e := fun a b h => Fin.ext (by have := congrArg Fin.val h; simp only [e] at this; omega)
  let p : Finset (Fin 512) := Finset.univ.filter fun j => ∃ t : Fin 3, (rowPick (padded M dead) 0 t).val = j.val
  have hp : p.card ≤ 3 := by
    have : p.card ≤ ((Finset.univ : Finset (Fin 3)).image fun t => (rowPick (padded M dead) 0 t).val).card := by
      rw [← Finset.card_image_of_injective p Fin.val_injective]
      refine Finset.card_le_card fun j hj => ?_
      obtain ⟨k, hk, rfl⟩ := Finset.mem_image.mp hj
      obtain ⟨t, ht⟩ := (Finset.mem_filter.mp hk).2
      exact Finset.mem_image.mpr ⟨t, Finset.mem_univ _, ht⟩
    exact this.trans (Finset.card_image_le.trans (by simp))
  have hle : (Finset.univ \ p).card ≤ (Finset.univ.filter (live (padded M dead))).card := by
    rw [← Finset.card_image_of_injective _ he]
    refine Finset.card_le_card fun c hc => ?_
    obtain ⟨j, hj, rfl⟩ := Finset.mem_image.mp hc
    refine Finset.mem_filter.mpr ⟨Finset.mem_univ _, ?_⟩
    refine exists_live_of_lt hd hM ⟨j.val, by omega⟩ j.isLt fun hm => ?_
    obtain ⟨t, ht⟩ := exists_rowPick (dead := dead) 0 (by decide) _ hm
    have : j ∈ p := Finset.mem_filter.mpr ⟨Finset.mem_univ _, t, by rw [ht]⟩
    exact (Finset.mem_sdiff.mp hj).2 this
  have hu := Finset.card_sdiff_add_card_eq_card (Finset.subset_univ p)
  rw [Finset.card_univ, Fintype.card_fin] at hu
  omega

/-- THE SELECTION: for each of the first 256 ranks exactly one candidate has that rank among the candidates, and it holds the value and the
    flat position of the entry of that rank of the flat list. -/
theorem candidates_spec (hd : dead < low) (hl : low < 0) (hM : NoTie M) (r : Fin 4128768) (hr : r.val < 256) :
    ∃ c, candV (padded M dead) low dead c = flat M low (pick (flat M low) r) ∧ candF (padded M dead) c = (pick (flat M low) r).val
      ∧ ∀ c', crank (candV (padded M dead) low dead) (candF (padded M dead)) c' = r.val ↔ c' = c := by
  have hd0 := hd.trans hl
  have hat : ∀ (i i' : Fin 1008) (j j' : Fin 4096), at' i j = at' i' j' → i = i' ∧ j = j' := fun i i' j j' h =>
    ⟨(rowOf_at i j).symm.trans ((congrArg rowOf h).trans (rowOf_at i' j')), (colOf_at i j).symm.trans ((congrArg colOf h).trans (colOf_at i' j'))⟩
  refine select_spec (flat M low) _ _ (live (padded M dead)) (pos (padded M dead)) dead 256 ?_ ?_ ?_ ?_ ?_ (many_live hd0 hM) r hr
  · intro c hc
    by_cases h : c.val < 3072
    · obtain ⟨hi, hm, hF, hp⟩ := live_row hd0 hM c h hc
      refine ⟨?_, by rw [hF, hp]⟩
      rw [hp, flat_of_mut (by rw [rowOf_at, colOf_at]; exact hm), rowOf_at, colOf_at]
      unfold candV
      rw [if_pos hc, dif_pos h, padded_row _ hi]
    · obtain ⟨j, hj, hm, hF, hp, -⟩ := live_fill hd0 hM c h hc
      refine ⟨?_, by rw [hF, hp]⟩
      rw [hp, flat_of_not_mut (by rw [rowOf_at, colOf_at]; exact hm)]
      unfold candV
      rw [if_pos hc, dif_neg h]
  · intro c c' hc hc' he
    by_cases h : c.val < 3072 <;> by_cases h' : c'.val < 3072
    · obtain ⟨hi, -, -, hp⟩ := live_row hd0 hM c h hc
      obtain ⟨hi', -, -, hp'⟩ := live_row hd0 hM c' h' hc'
      obtain ⟨h1, h2⟩ := hat _ _ _ _ (hp.symm.trans (he.trans hp'))
      have h1 : row c = row c' := Fin.ext (by simpa using h1)
      rw [← h1] at h2
      have h3 := rowPick_injective _ _ h2
      have h1 := congrArg Fin.val h1
      have h3 := congrArg Fin.val h3
      simp only [row, rnd] at h1 h3
      exact Fin.ext (by omega)
    · obtain ⟨hi, hm, -, hp⟩ := live_row hd0 hM c h hc
      obtain ⟨j, -, hm', -, hp', -⟩ := live_fill hd0 hM c' h' hc'
      obtain ⟨h1, h2⟩ := hat _ _ _ _ (hp.symm.trans (he.trans hp'))
      rw [h1, h2] at hm
      exact absurd hm hm'
    · obtain ⟨j, -, hm', -, hp', -⟩ := live_fill hd0 hM c h hc
      obtain ⟨hi, hm, -, hp⟩ := live_row hd0 hM c' h' hc'
      obtain ⟨h1, h2⟩ := hat _ _ _ _ (hp.symm.trans (he.symm.trans hp'))
      rw [h1, h2] at hm
      exact absurd hm hm'
    · obtain ⟨j, -, -, -, hp, e⟩ := live_fill hd0 hM c h hc
      obtain ⟨j', -, -, -, hp', e'⟩ := live_fill hd0 hM c' h' hc'
      obtain ⟨-, h2⟩ := hat _ _ _ _ (hp.symm.trans (he.trans hp'))
      exact Fin.ext (by rw [e, e', h2])
  · intro c hc
    unfold candV
    rw [if_neg hc]
  · intro n
    by_cases hn : Mut M (rowOf n) (colOf n)
    · rw [flat_of_mut hn]; exact hd0.trans hn.2.2
    · rw [flat_of_not_mut hn]; exact hd
  · intro n hn c hc
    have hnm : ¬ Mut M (rowOf n) (colOf n) := fun hm => by
      obtain ⟨c, hc, hp⟩ := exists_live_of_mut hd0 hM n hm
      exact hn c hc hp
    have hn512 : 512 ≤ n.val := by
      by_contra hlt
      have hr0 : rowOf n = 0 := Fin.ext (by show n.val / 4096 = 0; omega)
      have hcn : (colOf n).val = n.val := by show n.val % 4096 = n.val; omega
      have hl := exists_live_of_lt hd0 hM (colOf n) (by omega) (hr0 ▸ hnm)
      obtain ⟨j, -, -, -, hp, e⟩ := live_fill hd0 hM _ (by show ¬ 3072 + (colOf n).val < 3072; omega) hl
      refine hn _ hl (hp.trans ?_)
      have : j = colOf n := Fin.ext (by have : 3072 + (colOf n).val = 3072 + j.val := e; omega)
      rw [this, ← hr0, at_rowOf_colOf]
    unfold Beats
    rw [flat_of_not_mut hnm]
    by_cases h : c.val < 3072
    · obtain ⟨hi, hm, hF, hp⟩ := live_row hd0 hM c h hc
      left
      rw [hp, flat_of_mut (by rw [rowOf_at, colOf_at]; exact hm), rowOf_at, colOf_at]
      exact hl.trans hm.2.2
    · obtain ⟨j, hj, hm, hF, hp, -⟩ := live_fill hd0 hM c h hc
      right
      rw [hp]
      refine ⟨flat_of_not_mut (by rw [rowOf_at, colOf_at]; exact hm), ?_⟩
      show (0 : Fin 1008).val * 4096 + j.val < n.val
      have : (0 : Fin 1008).val = 0 := rfl
      omega

end Cert.Mutual

end
-- ==== Proof.Tops.lean ====
/-
  The host's top-k and its scatter of marks, read at an index: the k-th greatest entry of a row is `pick`, and the marks set at the
  picked positions are the entries of small rank.
-/
module

public import proofs.«01_k».proof.Proof.Mutual
public import Idealize.ShloMosaic.Lib.ValueIdx
public import Idealize.ShloMosaic.Lib.ValueLayout
public import Idealize.ShloMosaic.Lib.Pipeline.Value
public import Idealize.ShloMosaic.Lib.IdealHost
public import Idealize.ShloMosaic.Lib.Routing.OpsSet
public import Idealize.ShloMosaic.Lib.StableHlo.Predicate
public import Idealize.ShloMosaic.PureOps.Ideal

@[expose] public section

noncomputable section

namespace Cert.Tops

open Idealize.ShloMosaic Idealize.ShloMosaic.ValueIdx Idealize.ShloMosaic.Routing
open Cert.Ranks

/-- The host's sort order on two ideal numbers. -/
theorem greater_iff (a b : Ideal .f32) : ((FloatOps.cmpfTotal (F := Ideal) (φ := .f32) .gt a b) == 1#1) = true ↔ b < a := by
  rw [Ideal.cmpfTotal_def]
  show (BitVec.ofBool (decide (b < a)) == 1#1) = true ↔ _
  by_cases h : b < a <;> simp [h]

variable {a n k : Nat}

/-- The values of a top-k along the rows of a matrix. -/
theorem top_values (X : FVec Ideal ⟨2, ![a, n]⟩ .f32) (h : (⟨2, ![a, n]⟩ : Shape).Slices (fun _ => 0) ⟨2, ![a, k]⟩) (hk : k ≤ n)
    (i : Fin a) (t : Fin k) :
    (Host.topK ⟨2, ![a, k]⟩ 1 (FloatOps.cmpfTotal (F := Ideal) (φ := .f32) .gt) X h).1 (ix2 i t)
      = X (ix2 i (pick (fun b => X (ix2 i b)) (t.castLE hk))) := by
  have al : ∀ b, (ix2 i (t.castLE hk) : (⟨2, ![a, n]⟩ : Shape).Idx).along (1 : Fin 2) b = ix2 i b := fun b => by
    funext c
    match c with
    | ⟨0, _⟩ => rfl
    | ⟨1, _⟩ => rfl
  unfold Host.topK
  dsimp only
  refine (extractStridedSlice_apply _ _ _ (ix2 i t) (ix2 i (t.castLE hk)) ?_).trans ?_
  · intro c
    match c with
    | ⟨0, _⟩ => exact (Nat.zero_add _).symm
    | ⟨1, _⟩ => exact (Nat.zero_add _).symm
  · show X ((ix2 i (t.castLE hk) : (⟨2, ![a, n]⟩ : Shape).Idx).along (1 : Fin 2) (sortedFrom _ (t.castLE hk))) = _
    rw [al]
    refine congrArg (fun z => X (ix2 i z)) (sortedFrom_eq_pick (fun b => X (ix2 i b)) _ (fun b c => ?_) _)
    refine (greater_iff _ _).trans ?_
    exact iff_of_eq (congrArg₂ (fun p q => X p < X q) (al c) (al b))

/-- The positions of a top-k along the rows of a matrix. -/
theorem top_indices (X : FVec Ideal ⟨2, ![a, n]⟩ .f32) (h : (⟨2, ![a, n]⟩ : Shape).Slices (fun _ => 0) ⟨2, ![a, k]⟩) (hk : k ≤ n)
    (i : Fin a) (t : Fin k) :
    (Host.topK ⟨2, ![a, k]⟩ 1 (FloatOps.cmpfTotal (F := Ideal) (φ := .f32) .gt) X h).2 (ix2 i t)
      = BitVec.ofNat 32 (pick (fun b => X (ix2 i b)) (t.castLE hk)).val := by
  have al : ∀ b, (ix2 i (t.castLE hk) : (⟨2, ![a, n]⟩ : Shape).Idx).along (1 : Fin 2) b = ix2 i b := fun b => by
    funext c
    match c with
    | ⟨0, _⟩ => rfl
    | ⟨1, _⟩ => rfl
  unfold Host.topK
  dsimp only
  refine (extractStridedSlice_apply _ _ _ (ix2 i t) (ix2 i (t.castLE hk)) ?_).trans ?_
  · intro c
    match c with
    | ⟨0, _⟩ => exact (Nat.zero_add _).symm
    | ⟨1, _⟩ => exact (Nat.zero_add _).symm
  · show BitVec.ofNat 32 (sortedFrom _ (t.castLE hk)).val = _
    refine congrArg (fun z : Fin n => BitVec.ofNat 32 z.val) (sortedFrom_eq_pick (fun b => X (ix2 i b)) _ (fun b c => ?_) _)
    refine (greater_iff _ _).trans ?_
    exact iff_of_eq (congrArg₂ (fun p q => X p < X q) (al c) (al b))

/-- The values of a top-k of a vector. -/
theorem top1_values (X : FVec Ideal ⟨1, ![n]⟩ .f32) (h : (⟨1, ![n]⟩ : Shape).Slices (fun _ => 0) ⟨1, ![k]⟩) (hk : k ≤ n) (t : Fin k) :
    (Host.topK ⟨1, ![k]⟩ 0 (FloatOps.cmpfTotal (F := Ideal) (φ := .f32) .gt) X h).1 (ix1 t)
      = X (ix1 (pick (fun b => X (ix1 b)) (t.castLE hk))) := by
  have al : ∀ b, (ix1 (t.castLE hk) : (⟨1, ![n]⟩ : Shape).Idx).along (0 : Fin 1) b = ix1 b := fun b => by
    funext c
    match c with
    | ⟨0, _⟩ => rfl
  unfold Host.topK
  dsimp only
  refine (extractStridedSlice_apply _ _ _ (ix1 t) (ix1 (t.castLE hk)) ?_).trans ?_
  · intro c
    match c with
    | ⟨0, _⟩ => exact (Nat.zero_add _).symm
  · show X ((ix1 (t.castLE hk) : (⟨1, ![n]⟩ : Shape).Idx).along (0 : Fin 1) (sortedFrom _ (t.castLE hk))) = _
    rw [al]
    refine congrArg (fun z => X (ix1 z)) (sortedFrom_eq_pick (fun b => X (ix1 b)) _ (fun b c => ?_) _)
    refine (greater_iff _ _).trans ?_
    exact iff_of_eq (congrArg₂ (fun p q => X p < X q) (al c) (al b))

/-- The positions of a top-k of a vector. -/
theorem top1_indices (X : FVec Ideal ⟨1, ![n]⟩ .f32) (h : (⟨1, ![n]⟩ : Shape).Slices (fun _ => 0) ⟨1, ![k]⟩) (hk : k ≤ n) (t : Fin k) :
    (Host.topK ⟨1, ![k]⟩ 0 (FloatOps.cmpfTotal (F := Ideal) (φ := .f32) .gt) X h).2 (ix1 t)
      = BitVec.ofNat 32 (pick (fun b => X (ix1 b)) (t.castLE hk)).val := by
  have al : ∀ b, (ix1 (t.castLE hk) : (⟨1, ![n]⟩ : Shape).Idx).along (0 : Fin 1) b = ix1 b := fun b => by
    funext c
    match c with
    | ⟨0, _⟩ => rfl
  unfold Host.topK
  dsimp only
  refine (extractStridedSlice_apply _ _ _ (ix1 t) (ix1 (t.castLE hk)) ?_).trans ?_
  · intro c
    match c with
    | ⟨0, _⟩ => exact (Nat.zero_add _).symm
  · show BitVec.ofNat 32 (sortedFrom _ (t.castLE hk)).val = _
    refine congrArg (fun z : Fin n => BitVec.ofNat 32 z.val) (sortedFrom_eq_pick (fun b => X (ix1 b)) _ (fun b c => ?_) _)
    refine (greater_iff _ _).trans ?_
    exact iff_of_eq (congrArg₂ (fun p q => X p < X q) (al c) (al b))

/-- Marks scattered at the first `k` picked columns of every row: an entry is marked exactly when its rank in its row is below `k`. -/
theorem marks (d : ScatterDims ⟨2, ![a, n]⟩ ⟨3, ![a, k, 2]⟩ ⟨2, ![a, k]⟩) (hiw : d.insertedWindowDims = [0, 1])
    (hsd : d.scatterDimsToOperandDims = [0, 1]) (hivd : d.indexVectorDim = 2) (ha : a < 2 ^ 31) (hn : n < 2 ^ 31) (hk : k ≤ n)
    (z : IVec ⟨2, ![a, n]⟩ 1) (hz : ∀ i j, z (ix2 i j) = 0#1) (u : IVec ⟨2, ![a, k]⟩ 1) (hu : ∀ j, u j = 1#1)
    (idx : IVec ⟨3, ![a, k, 2]⟩ 32) (x : Fin a → Fin n → EReal) (h0 : ∀ i t, idx (ix3 i t 0) = BitVec.ofNat 32 i.val)
    (h1 : ∀ i t, idx (ix3 i t 1) = BitVec.ofNat 32 (pick (x i) (t.castLE hk)).val) (i : Fin a) (j : Fin n) :
    Host.scatter d (fun _ b => b) z idx u (ix2 i j) = 1#1 ↔ rank (x i) j < k := by
  have L : ∀ (p : Fin a) (t : Fin k), d.resultIdx? (ix2 p t) idx = some (ix2 i j) ↔ p = i ∧ pick (x p) (t.castLE hk) = j := fun p t => by
    rw [scatter_lands2 d hiw hsd hivd, h0, h1, StableHlo.Predicate.toInt_ofNat_small _ (by have := p.isLt; omega),
      StableHlo.Predicate.toInt_ofNat_small _ (by have := (pick (x p) (t.castLE hk)).isLt; omega), Int.ofNat_inj, Int.ofNat_inj, Fin.ext_iff, Fin.ext_iff]
  rw [← exists_pick_iff (x i) hk j]
  by_cases h : ∃ t : Fin k, pick (x i) (t.castLE hk) = j
  · obtain ⟨t, ht⟩ := h
    exact ⟨fun _ => ⟨t, ht⟩, fun _ => scatter_set_hit d z idx u (ix2 i j) 1#1 (fun q _ => hu q) (ix2 i t) ((L i t).2 ⟨rfl, ht⟩)⟩
  · refine ⟨fun e => ?_, fun e => absurd e h⟩
    rw [scatter_set_miss d z idx u (ix2 i j) fun q e => ?_, hz] at e
    · exact absurd e (by decide)
    · obtain ⟨p, t, rfl⟩ : ∃ p t, q = ix2 p t := ⟨q 0, q 1, eq_ix2 q⟩
      obtain ⟨rfl, e2⟩ := (L p t).1 e
      exact h ⟨t, e2⟩

end Cert.Tops

end
-- ==== Proof.HostMarks.lean ====
/-
  The host's marks of a row's greatest entries: the index words it builds — the row's own number and the picked columns, each wrapped
  if negative — and the marks scattered at them.
-/
module

public import proofs.«01_k».proof.Proof.Tops

@[expose] public section

noncomputable section

namespace Cert.HostMarks

open Idealize.ShloMosaic Idealize.ShloMosaic.ValueIdx Idealize.ShloMosaic.Routing
open Cert.Ranks Cert.Tops

/-- A matrix as a stack of columns, read at an index. -/
theorem bcast_unit {α : Type} {a b : Nat} (v : (⟨2, ![a, b]⟩ : Shape).Idx → α)
    (h : (⟨2, ![a, b]⟩ : Shape).BroadcastsInDim ⟨3, ![a, b, 1]⟩ ![0, 1]) (i : Fin a) (t : Fin b) :
    broadcastInDim ⟨3, ![a, b, 1]⟩ ![0, 1] h v (ix3 i t 0) = v (ix2 i t) := by
  refine broadcastInDim_apply _ _ _ _ _ fun c => ?_
  match c with
  | ⟨0, _⟩ =>
    show i.val = if a = 1 then 0 else i.val
    have := i.isLt
    split <;> omega
  | ⟨1, _⟩ =>
    show t.val = if b = 1 then 0 else t.val
    have := t.isLt
    split <;> omega

/-- A column broadcast along the rows, read at an index. -/
theorem bcast_along {α : Type} {a b : Nat} (v : (⟨2, ![a, 1]⟩ : Shape).Idx → α)
    (h : (⟨2, ![a, 1]⟩ : Shape).BroadcastsInDim ⟨2, ![a, b]⟩ ![0, 1]) (i : Fin a) (t : Fin b) :
    broadcastInDim ⟨2, ![a, b]⟩ ![0, 1] h v (ix2 i t) = v (ix2 i 0) := by
  refine broadcastInDim_apply _ _ _ _ _ fun c => ?_
  match c with
  | ⟨0, _⟩ =>
    show i.val = if a = 1 then 0 else i.val
    have := i.isLt
    split <;> omega
  | ⟨1, _⟩ => rfl

/-- A row broadcast down the columns, read at an index. -/
theorem bcast_down {α : Type} {a b : Nat} (v : (⟨2, ![1, b]⟩ : Shape).Idx → α)
    (h : (⟨2, ![1, b]⟩ : Shape).BroadcastsInDim ⟨2, ![a, b]⟩ ![0, 1]) (i : Fin a) (t : Fin b) :
    broadcastInDim ⟨2, ![a, b]⟩ ![0, 1] h v (ix2 i t) = v (ix2 0 t) := by
  refine broadcastInDim_apply _ _ _ _ _ fun c => ?_
  match c with
  | ⟨0, _⟩ => rfl
  | ⟨1, _⟩ =>
    show t.val = if b = 1 then 0 else t.val
    have := t.isLt
    split <;> omega

/-- A vector as a column, read at an index. -/
theorem bcast_column {α : Type} {a : Nat} (v : (⟨1, ![a]⟩ : Shape).Idx → α) (h : (⟨1, ![a]⟩ : Shape).BroadcastsInDim ⟨2, ![a, 1]⟩ ![0]) (i : Fin a) :
    broadcastInDim ⟨2, ![a, 1]⟩ ![0] h v (ix2 i 0) = v (ix1 i) := by
  refine broadcastInDim_apply _ _ _ _ _ fun c => ?_
  match c with
  | ⟨0, _⟩ =>
    show i.val = if a = 1 then 0 else i.val
    have := i.isLt
    split <;> omega

/-- A vector as a row, read at an index. -/
theorem bcast_row {α : Type} {a : Nat} (v : (⟨1, ![a]⟩ : Shape).Idx → α) (h : (⟨1, ![a]⟩ : Shape).BroadcastsInDim ⟨2, ![1, a]⟩ ![1]) (i : Fin a) :
    broadcastInDim ⟨2, ![1, a]⟩ ![1] h v (ix2 0 i) = v (ix1 i) := by
  refine broadcastInDim_apply _ _ _ _ _ fun c => ?_
  match c with
  | ⟨0, _⟩ =>
    show i.val = if a = 1 then 0 else i.val
    have := i.isLt
    split <;> omega

/-- Two stacks of columns, side by side, read at the first. -/
theorem pair_fst {α : Type} {a b : Nat} (x y : (⟨3, ![a, b, 1]⟩ : Shape).Idx → α)
    (h : Shape.Concatenates [⟨3, ![a, b, 1]⟩, ⟨3, ![a, b, 1]⟩] ⟨3, ![a, b, 2]⟩ 2) (i : Fin a) (t : Fin b) :
    concatenate ⟨3, ![a, b, 2]⟩ 2 [⟨⟨3, ![a, b, 1]⟩, x⟩, ⟨⟨3, ![a, b, 1]⟩, y⟩] h (ix3 i t 0) = x (ix3 i t 0) := by
  have P := @concatenate_apply_piece α ⟨3, ![a, b, 2]⟩ 2 [⟨⟨3, ![a, b, 1]⟩, x⟩, ⟨⟨3, ![a, b, 1]⟩, y⟩] h (ix3 i t 0)
  refine P 0 (by simp) ⟨3, ![a, b, 1]⟩ x rfl rfl 0 (by simp) (ix3 i t 0) (fun c hc => ?_) rfl
  match c, hc with
  | ⟨0, _⟩, _ => rfl
  | ⟨1, _⟩, _ => rfl
  | ⟨2, _⟩, hc => exact absurd rfl hc

/-- Two stacks of columns, side by side, read at the second. -/
theorem pair_snd {α : Type} {a b : Nat} (x y : (⟨3, ![a, b, 1]⟩ : Shape).Idx → α)
    (h : Shape.Concatenates [⟨3, ![a, b, 1]⟩, ⟨3, ![a, b, 1]⟩] ⟨3, ![a, b, 2]⟩ 2) (i : Fin a) (t : Fin b) :
    concatenate ⟨3, ![a, b, 2]⟩ 2 [⟨⟨3, ![a, b, 1]⟩, x⟩, ⟨⟨3, ![a, b, 1]⟩, y⟩] h (ix3 i t 1) = y (ix3 i t 0) := by
  have P := @concatenate_apply_piece α ⟨3, ![a, b, 2]⟩ 2 [⟨⟨3, ![a, b, 1]⟩, x⟩, ⟨⟨3, ![a, b, 1]⟩, y⟩] h (ix3 i t 1)
  refine P 1 (by simp) ⟨3, ![a, b, 1]⟩ y rfl rfl 1 (by simp) (ix3 i t 0) (fun c hc => ?_) rfl
  match c, hc with
  | ⟨0, _⟩, _ => rfl
  | ⟨1, _⟩, _ => rfl
  | ⟨2, _⟩, hc => exact absurd rfl hc

/-- A word of a natural below 2³¹ is left by the wrap of negative indices. -/
theorem wrap_nat (n : Nat) (hn : n < 2 ^ 31) (y : BitVec 32) :
    Scalar.select (IntOp.cmpi .slt (BitVec.ofNat 32 n) 0#32) y (BitVec.ofNat 32 n) = BitVec.ofNat 32 n :=
  wrap_of_lt _ _ (by rw [BitVec.toNat_ofNat]; omega)

/-- The marks the host sets at the first `k` picked columns of every row, as it builds them. -/
theorem top_marks {a n k : Nat} (d : ScatterDims ⟨2, ![a, n]⟩ ⟨3, ![a, k, 2]⟩ ⟨2, ![a, k]⟩) (hiw : d.insertedWindowDims = [0, 1])
    (hsd : d.scatterDimsToOperandDims = [0, 1]) (hivd : d.indexVectorDim = 2) (ha : a < 2 ^ 31) (hn : n < 2 ^ 31) (hk : k ≤ n)
    (X : FVec Ideal ⟨2, ![a, n]⟩ .f32) (wa wn : BitVec 32)
    (hz : (⟨0, ![]⟩ : Shape).BroadcastsInDim ⟨2, ![a, n]⟩ ![]) (h1 : (⟨2, ![a, k]⟩ : Shape).BroadcastsInDim ⟨3, ![a, k, 1]⟩ ![0, 1])
    (h2 : (⟨2, ![a, 1]⟩ : Shape).BroadcastsInDim ⟨2, ![a, k]⟩ ![0, 1]) (h3 : (⟨1, ![a]⟩ : Shape).BroadcastsInDim ⟨2, ![a, 1]⟩ ![0])
    (h4 : (⟨0, ![]⟩ : Shape).BroadcastsInDim ⟨2, ![a, 1]⟩ ![]) (h5 : (⟨0, ![]⟩ : Shape).BroadcastsInDim ⟨2, ![a, k]⟩ ![])
    (hs : (⟨2, ![a, n]⟩ : Shape).Slices (fun _ => 0) ⟨2, ![a, k]⟩)
    (hc : Shape.Concatenates [⟨3, ![a, k, 1]⟩, ⟨3, ![a, k, 1]⟩] ⟨3, ![a, k, 2]⟩ 2) (i : Fin a) (j : Fin n) :
    Host.scatter d (fun _ b => b) (broadcastInDim ⟨2, ![a, n]⟩ ![] hz (constantI ⟨0, ![]⟩ 1 0#1))
      (concatenate ⟨3, ![a, k, 2]⟩ 2
        [⟨⟨3, ![a, k, 1]⟩, broadcastInDim ⟨3, ![a, k, 1]⟩ ![0, 1] h1 (broadcastInDim ⟨2, ![a, k]⟩ ![0, 1] h2
            (select (cmpi .slt (broadcastInDim ⟨2, ![a, 1]⟩ ![0] h3 (iotaInDim ⟨1, ![a]⟩ 32 0)) (broadcastInDim ⟨2, ![a, 1]⟩ ![] h4 (constantI ⟨0, ![]⟩ 32 0#32)))
              (addi (broadcastInDim ⟨2, ![a, 1]⟩ ![0] h3 (iotaInDim ⟨1, ![a]⟩ 32 0)) (broadcastInDim ⟨2, ![a, 1]⟩ ![] h4 (constantI ⟨0, ![]⟩ 32 wa)))
              (broadcastInDim ⟨2, ![a, 1]⟩ ![0] h3 (iotaInDim ⟨1, ![a]⟩ 32 0))))⟩,
         ⟨⟨3, ![a, k, 1]⟩, broadcastInDim ⟨3, ![a, k, 1]⟩ ![0, 1] h1
            (select (cmpi .slt (Host.topK ⟨2, ![a, k]⟩ 1 (FloatOps.cmpfTotal (F := Ideal) (φ := .f32) .gt) X hs).2 (broadcastInDim ⟨2, ![a, k]⟩ ![] h5 (constantI ⟨0, ![]⟩ 32 0#32)))
              (addi (Host.topK ⟨2, ![a, k]⟩ 1 (FloatOps.cmpfTotal (F := Ideal) (φ := .f32) .gt) X hs).2 (broadcastInDim ⟨2, ![a, k]⟩ ![] h5 (constantI ⟨0, ![]⟩ 32 wn)))
              (Host.topK ⟨2, ![a, k]⟩ 1 (FloatOps.cmpfTotal (F := Ideal) (φ := .f32) .gt) X hs).2)⟩] hc)
      (broadcastInDim ⟨2, ![a, k]⟩ ![] h5 (constantI ⟨0, ![]⟩ 1 1#1)) (ix2 i j) = 1#1
      ↔ rank (fun b => X (ix2 i b)) j < k := by
  refine marks d hiw hsd hivd ha hn hk _ (fun _ _ => rfl) _ (fun _ => rfl) _ (fun i b => X (ix2 i b)) (fun p t => ?_) (fun p t => ?_) i j
  · rw [pair_fst, bcast_unit, bcast_along]
    have e : broadcastInDim ⟨2, ![a, 1]⟩ ![0] h3 (iotaInDim ⟨1, ![a]⟩ 32 0) (ix2 p 0) = BitVec.ofNat 32 p.val := bcast_column _ h3 p
    show Scalar.select (IntOp.cmpi .slt (broadcastInDim ⟨2, ![a, 1]⟩ ![0] h3 (iotaInDim ⟨1, ![a]⟩ 32 0) (ix2 p 0)) 0#32) _
      (broadcastInDim ⟨2, ![a, 1]⟩ ![0] h3 (iotaInDim ⟨1, ![a]⟩ 32 0) (ix2 p 0)) = _
    rw [e]
    exact wrap_nat _ (by have := p.isLt; omega) _
  · rw [pair_snd, bcast_unit]
    have e := top_indices X hs hk p t
    show Scalar.select (IntOp.cmpi .slt ((Host.topK ⟨2, ![a, k]⟩ 1 (FloatOps.cmpfTotal (F := Ideal) (φ := .f32) .gt) X hs).2 (ix2 p t)) 0#32) _
      ((Host.topK ⟨2, ![a, k]⟩ 1 (FloatOps.cmpfTotal (F := Ideal) (φ := .f32) .gt) X hs).2 (ix2 p t)) = _
    rw [e]
    exact wrap_nat _ (by have := (pick (fun b => X (ix2 p b)) (t.castLE hk)).isLt; omega) _

end Cert.HostMarks

end
-- ==== Proof.Reads.lean ====
/-
  Vector operations on matrices of any extent, read at an index: maxima, least positions and sums along either axis, broadcasts of a
  row or a column, comparisons under a select.
-/
module

public import proofs.«01_k».proof.Proof.Ranks
public import Idealize.ShloMosaic.Lib.ValueIdx
public import Idealize.ShloMosaic.Lib.ValueLayout
public import Idealize.ShloMosaic.Lib.ValueLayoutCasts
public import Idealize.ShloMosaic.PureOps.Ideal.Laws
public import Idealize.ShloMosaic.PureOps.Reduce

@[expose] public section

noncomputable section

namespace Cert.Reads

open Idealize.ShloMosaic Idealize.ShloMosaic.ValueIdx
open Cert.Ranks

variable {a b : Nat} {α : Type}

/-- Inserting a coordinate along the second axis. -/
theorem lift_row (h : Shape.Reduces ⟨2, ![a, b]⟩ [1] ⟨1, ![a]⟩) (i : Fin a) (k : Fin b) : h.lift (ix1 i) k = ix2 i k := by
  funext c
  match c with
  | ⟨0, _⟩ => exact Fin.ext rfl
  | ⟨1, _⟩ => exact Fin.ext rfl

/-- Inserting a coordinate along the first axis. -/
theorem lift_col (h : Shape.Reduces ⟨2, ![a, b]⟩ [0] ⟨1, ![b]⟩) (j : Fin b) (k : Fin a) : h.lift (ix1 j) k = ix2 k j := by
  funext c
  match c with
  | ⟨0, _⟩ => exact Fin.ext rfl
  | ⟨1, _⟩ => exact Fin.ext rfl

/-- The sum along a row. -/
theorem add_row (x : FVec Ideal ⟨2, ![a, b]⟩ .f32) (acc : BitVec 32) (h : Shape.Reduces ⟨2, ![a, b]⟩ [1] ⟨1, ![a]⟩)
    (hφ : FKind.Formats .f32) (hacc : acc = FKind.add.neutral .f32 hφ) (i : Fin a) :
    multiReduction .add [1] ⟨1, ![a]⟩ x acc h hφ hacc (ix1 i) = ∑ k : Fin b, x (ix2 i k) := by
  refine (Ideal.multiReduction_add_single x acc h hφ hacc (ix1 i)).trans (Finset.sum_congr rfl fun k _ => ?_)
  exact congrArg x (lift_row h i k)

/-- The maximum along a row. -/
theorem max_row (x : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (i : Fin a) :
    multiReduction .maximumf [1] ⟨1, ![a]⟩ x acc h hφ hacc (ix1 i)
      = (Finset.univ : Finset (Fin b)).fold max (Ideal.ofBits .f32 acc) fun k => x (ix2 i k) := by
  refine (Ideal.multiReduction_maximumf_single x acc h hφ hacc (ix1 i)).trans ?_
  exact congrArg (fun g => (Finset.univ : Finset (Fin b)).fold max (Ideal.ofBits .f32 acc) g) (funext fun k => congrArg x (lift_row h i k))

/-- The maximum along a column. -/
theorem max_col (x : FVec Ideal ⟨2, ![a, b]⟩ .f32) (acc : BitVec 32) (h : Shape.Reduces ⟨2, ![a, b]⟩ [0] ⟨1, ![b]⟩)
    (hφ : FKind.Formats .f32) (hacc : acc = FKind.maximumf.neutral .f32 hφ) (j : Fin b) :
    multiReduction .maximumf [0] ⟨1, ![b]⟩ x acc h hφ hacc (ix1 j)
      = (Finset.univ : Finset (Fin a)).fold max (Ideal.ofBits .f32 acc) fun k => x (ix2 k j) := by
  refine (Ideal.multiReduction_maximumf_single x acc h hφ hacc (ix1 j)).trans ?_
  exact congrArg (fun g => (Finset.univ : Finset (Fin a)).fold max (Ideal.ofBits .f32 acc) g) (funext fun k => congrArg x (lift_col h j k))

/-- The least word along a row. -/
theorem min_row (x : IVec ⟨2, ![a, b]⟩ 32) (acc : BitVec 32) (h : Shape.Reduces ⟨2, ![a, b]⟩ [1] ⟨1, ![a]⟩)
    (hacc : acc = IKind.minsi.neutral) (i : Fin a) :
    multiReductionI .minsi [1] ⟨1, ![a]⟩ x acc h hacc (ix1 i)
      = (Finset.univ : Finset (Fin b)).fold IKind.minsi.op acc fun k => x (ix2 i k) := by
  rw [multiReductionI_eq_fold, Shape.Reduces.fold_filter_drop_single]
  exact congrArg (fun g => (Finset.univ : Finset (Fin b)).fold IKind.minsi.op acc g) (funext fun k => congrArg x (lift_row h i k))

/-- The least word along a column. -/
theorem min_col (x : IVec ⟨2, ![a, b]⟩ 32) (acc : BitVec 32) (h : Shape.Reduces ⟨2, ![a, b]⟩ [0] ⟨1, ![b]⟩)
    (hacc : acc = IKind.minsi.neutral) (j : Fin b) :
    multiReductionI .minsi [0] ⟨1, ![b]⟩ x acc h hacc (ix1 j)
      = (Finset.univ : Finset (Fin a)).fold IKind.minsi.op acc fun k => x (ix2 k j) := by
  rw [multiReductionI_eq_fold, Shape.Reduces.fold_filter_drop_single]
  exact congrArg (fun g => (Finset.univ : Finset (Fin a)).fold IKind.minsi.op acc g) (funext fun k => congrArg x (lift_col h j k))

/-- A column broadcast over the columns of a matrix. -/
theorem bcast_col (v : (⟨2, ![a, 1]⟩ : Shape).Idx → α) (h : (⟨2, ![a, 1]⟩ : Shape).Broadcasts ⟨2, ![a, b]⟩) (p : Fin a) (c : Fin b) :
    broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-! ## Values of the folds -/

/-- The word of minus infinity. -/
theorem ofBits_neg_inf : Ideal.ofBits .f32 0xFF800000#32 = ⊥ := by simp [Ideal.ofBits, Ideal.ieee]

/-- A maximum from minus infinity that one entry attains. -/
theorem fold_max_eq {n : Nat} (x : Fin n → EReal) (i : Fin n) (h : ∀ j, x j ≤ x i) :
    (Finset.univ : Finset (Fin n)).fold max (Ideal.ofBits .f32 0xFF800000#32) x = x i := by
  rw [ofBits_neg_inf]
  refine le_antisymm ?_ ?_
  · exact (Finset.fold_max_le _).mpr ⟨bot_le, fun j _ => h j⟩
  · exact (Finset.le_fold_max _).mpr (Or.inr ⟨i, Finset.mem_univ _, le_rfl⟩)

/-- The least of words that hold naturals, one of which is the least. -/
theorem fold_min_eq {n : Nat} (hn : n < 2 ^ 31) (w : Fin n → BitVec 32) (v : Fin n → Nat) (hv : ∀ j, v j ≤ n) (hw : ∀ j, w j = BitVec.ofNat 32 (v j)) (i : Fin n)
    (h : ∀ j, v i ≤ v j) : (Finset.univ : Finset (Fin n)).fold IKind.minsi.op 2147483647#32 w = BitVec.ofNat 32 (v i) := by
  have ht : ∀ m : Nat, m ≤ n → (BitVec.ofNat 32 m).toInt = (m : Int) := fun m hm => by
    rw [BitVec.toInt_eq_toNat_of_lt] <;> rw [BitVec.toNat_ofNat, Nat.mod_eq_of_lt (by omega)]
    omega
  have hmin : ∀ x y : BitVec 32, (IKind.minsi.op x y).toInt = min x.toInt y.toInt := fun x y => by
    show (IntOp.minsi x y).toInt = _
    unfold IntOp.minsi
    rw [BitVec.slt]
    by_cases hxy : x.toInt < y.toInt
    · rw [if_pos (by simpa using hxy), min_eq_left hxy.le]
    · rw [if_neg (by simpa using hxy), min_eq_right (not_lt.mp hxy)]
  have hf : ∀ s : Finset (Fin n), (s.fold IKind.minsi.op 2147483647#32 w).toInt = s.fold min 2147483647 fun j => (v j : Int) := fun s => by
    induction s using Finset.induction_on with
    | empty => rfl
    | insert j s hj ih =>
      rw [Finset.fold_insert hj, Finset.fold_insert hj, hmin, ih, hw, ht _ (hv j)]
  apply BitVec.eq_of_toInt_eq
  rw [hf, ht _ (hv i)]
  refine le_antisymm ?_ ?_
  · exact (Finset.fold_min_le _).mpr (Or.inr ⟨i, Finset.mem_univ _, le_rfl⟩)
  · refine (Finset.le_fold_min _).mpr ⟨?_, fun j _ => ?_⟩
    · have := hv i; omega
    · exact_mod_cast h j

/-- A round's maximum. -/
theorem fold_max_removed {n : Nat} (x : Fin n → EReal) (low : EReal) (hlow : ∀ j, low < x j) (t : Fin n) :
    (Finset.univ : Finset (Fin n)).fold max (Ideal.ofBits .f32 0xFF800000#32) (removed x low t.val) = x (pick x t) := by
  have := fold_max_eq (removed x low t.val) (pick x t) fun j => by rw [removed_pick]; exact removed_le x low hlow t j
  rw [this, removed_pick]

/-- A round's least position of the maximum. -/
theorem fold_min_removed {n : Nat} (hn : n < 2 ^ 31) (x : Fin n → EReal) (low : EReal) (hlow : ∀ j, low < x j) (t : Fin n) (w : Fin n → BitVec 32)
    (hw : ∀ j, (removed x low t.val j = x (pick x t) → w j = BitVec.ofNat 32 j.val) ∧ (removed x low t.val j ≠ x (pick x t) → w j = BitVec.ofNat 32 n)) :
    (Finset.univ : Finset (Fin n)).fold IKind.minsi.op 2147483647#32 w = BitVec.ofNat 32 (pick x t).val := by
  classical
  have h := fold_min_eq hn w (fun j => if removed x low t.val j = x (pick x t) then j.val else n) (fun j => by
      split
      · exact j.isLt.le
      · exact le_rfl) (fun j => by
      split
      · next h => exact (hw j).1 h
      · next h => exact (hw j).2 h) (pick x t) (fun j => by
      rw [if_pos (removed_pick x low t)]
      split
      · next h => exact pick_le x low hlow t j h
      · exact (pick x t).isLt.le)
  rw [h, if_pos (removed_pick x low t)]

/-! ## Comparisons under a select -/

open Classical in
/-- A select on the equality of two extended reals. -/
theorem sel_oeq (x y : EReal) (p q : α) : Scalar.select (FloatOps.cmpf (F := Ideal) (φ := .f32) .oeq x y) p q = if x = y then p else q := by
  show Scalar.select (BitVec.ofBool (decide (x = y))) p q = _
  by_cases h : x = y <;> simp [h, Scalar.select]

/-- A select on the equality of two words. -/
theorem sel_eq (x y : BitVec 32) (p q : α) : Scalar.select (IntOp.cmpi .eq x y) p q = if x = y then p else q := by
  unfold IntOp.cmpi Scalar.select
  by_cases h : x = y
  · subst h; simp
  · simp [h, beq_eq_false_iff_ne.mpr h]

/-- The bit of a word equality. -/
theorem cmpi_eq_iff (x y : BitVec 32) : IntOp.cmpi .eq x y = 1#1 ↔ x = y := by
  unfold IntOp.cmpi
  by_cases h : x = y
  · subst h; simp
  · simp [h, beq_eq_false_iff_ne.mpr h]

/-- The bit of an equality of extended reals. -/
theorem oeq_iff (x y : EReal) : FloatOps.cmpf (F := Ideal) (φ := .f32) .oeq x y = 1#1 ↔ x = y := by
  show BitVec.ofBool (decide (x = y)) = 1#1 ↔ _
  by_cases h : x = y <;> simp [h]

/-- The bit of "greater". -/
theorem ogt_iff (x y : EReal) : FloatOps.cmpf (F := Ideal) (φ := .f32) .ogt x y = 1#1 ↔ y < x := by
  show BitVec.ofBool (decide (y < x)) = 1#1 ↔ _
  by_cases h : y < x <;> simp [h]

/-- The bit of "less". -/
theorem olt_iff (x y : EReal) : FloatOps.cmpf (F := Ideal) (φ := .f32) .olt x y = 1#1 ↔ x < y := by
  show BitVec.ofBool (decide (x < y)) = 1#1 ↔ _
  by_cases h : x < y <;> simp [h]

/-- The bit of "at least". -/
theorem oge_iff (x y : EReal) : FloatOps.cmpf (F := Ideal) (φ := .f32) .oge x y = 1#1 ↔ y ≤ x := by
  show BitVec.ofBool (decide (y ≤ x)) = 1#1 ↔ _
  by_cases h : y ≤ x <;> simp [h]

/-- A conjunction at an index. -/
theorem andi_apply {s : Shape} {w : Nat} (x y : IVec s w) (i : s.Idx) : andi x y i = IntOp.andi (x i) (y i) := rfl

/-- A disjunction at an index. -/
theorem ori_apply {s : Shape} {w : Nat} (x y : IVec s w) (i : s.Idx) : ori x y i = IntOp.ori (x i) (y i) := rfl

/-- A word comparison at an index. -/
theorem cmpi_apply {s : Shape} {w : Nat} (p : CmpIPredicate) (x y : IVec s w) (i : s.Idx) : cmpi p x y i = IntOp.cmpi p (x i) (y i) := rfl

/-- A word sum at an index. -/
theorem addi_apply {s : Shape} {w : Nat} (x y : IVec s w) (i : s.Idx) : addi x y i = IntOp.addi (x i) (y i) := rfl

/-- A word product at an index. -/
theorem muli_apply {s : Shape} {w : Nat} (x y : IVec s w) (i : s.Idx) : muli x y i = IntOp.muli (x i) (y i) := rfl

/-- The conjunction of two bits. -/
theorem andi_iff (x y : BitVec 1) : IntOp.andi x y = 1#1 ↔ x = 1#1 ∧ y = 1#1 := by
  revert x y; decide

/-- The disjunction of two bits. -/
theorem ori_iff (x y : BitVec 1) : IntOp.ori x y = 1#1 ↔ x = 1#1 ∨ y = 1#1 := by
  revert x y; decide

open Classical in
/-- A select by what its bit says. -/
theorem sel_iff {c : BitVec 1} {P : Prop} (h : c = 1#1 ↔ P) (p q : α) : Scalar.select c p q = if P then p else q := by
  unfold Scalar.select
  by_cases hP : P
  · rw [if_pos hP]; exact if_pos (h.mpr hP)
  · rw [if_neg hP]; exact if_neg fun hc => hP (h.mp hc)

/-- Small naturals as words are equal only if equal. -/
theorem ofNat_inj {m n : Nat} (hm : m < 2 ^ 32) (hn : n < 2 ^ 32) : BitVec.ofNat 32 m = BitVec.ofNat 32 n ↔ m = n := by
  constructor
  · intro h
    have := congrArg BitVec.toNat h
    rwa [BitVec.toNat_ofNat, BitVec.toNat_ofNat, Nat.mod_eq_of_lt hm, Nat.mod_eq_of_lt hn] at this
  · rintro rfl; rfl

end Cert.Reads

end
-- ==== Proof.Rounds.lean ====
/-
  One round of an iterative top-k along an axis of a matrix of any extent: the maximum, its first position, the removal of that
  position, and the test whether a mask holds there.
-/
module

public import proofs.«01_k».proof.Proof.Reads

@[expose] public section

noncomputable section

namespace Cert.Rounds

open Idealize.ShloMosaic Idealize.ShloMosaic.ValueIdx
open Cert.Ranks Cert.Reads

variable {a b : Nat}

/-! ## Along the rows -/

/-- A round's maximum of each row. -/
theorem row_max (S : Fin a → Fin b → EReal) (low : EReal) (hlow : ∀ i j, low < S i j) (t : Fin b) (X : FVec Ideal ⟨2, ![a, b]⟩ .f32)
    (hX : ∀ i j, X (ix2 i j) = removed (S i) low t.val j)
    (h : Shape.Reduces ⟨2, ![a, b]⟩ [1] ⟨1, ![a]⟩) (hφ : FKind.Formats .f32) (hacc : 0xFF800000#32 = FKind.maximumf.neutral .f32 hφ)
    (hc : Shape.ShapeCasts ⟨1, ![a]⟩ ⟨2, ![a, 1]⟩) (i : Fin a) :
    shapeCast ⟨2, ![a, 1]⟩ (multiReduction .maximumf [1] ⟨1, ![a]⟩ X 0xFF800000#32 h hφ hacc) hc (ix2 i 0) = S i (pick (S i) t) := by
  rw [shapeCast_a_a1_apply, max_row]
  refine Eq.trans ?_ (fold_max_removed (S i) low (hlow i) t)
  exact congrArg (fun g => (Finset.univ : Finset (Fin b)).fold max (Ideal.ofBits .f32 0xFF800000#32) g) (funext fun k => hX i k)

/-- A round's first position of each row's maximum. -/
theorem row_idx (hb : b < 2 ^ 31) (S : Fin a → Fin b → EReal) (low : EReal) (hlow : ∀ i j, low < S i j) (t : Fin b) (X : FVec Ideal ⟨2, ![a, b]⟩ .f32)
    (hX : ∀ i j, X (ix2 i j) = removed (S i) low t.val j) (V : IVec ⟨2, ![a, b]⟩ 32) (hV : ∀ i j, V (ix2 i j) = BitVec.ofNat 32 j.val)
    (m : FVec Ideal ⟨2, ![a, 1]⟩ .f32) (hm : ∀ i, m (ix2 i 0) = S i (pick (S i) t)) (n : BitVec 32) (hn : n = BitVec.ofNat 32 b)
    (hbc : Shape.Broadcasts ⟨2, ![a, 1]⟩ ⟨2, ![a, b]⟩)
    (h : Shape.Reduces ⟨2, ![a, b]⟩ [1] ⟨1, ![a]⟩) (hacc : 2147483647#32 = IKind.minsi.neutral)
    (hc : Shape.ShapeCasts ⟨1, ![a]⟩ ⟨2, ![a, 1]⟩) (i : Fin a) :
    shapeCast ⟨2, ![a, 1]⟩ (multiReductionI .minsi [1] ⟨1, ![a]⟩
        (select (cmpf .oeq X (broadcastTo ⟨2, ![a, b]⟩ m hbc)) V (broadcast ⟨2, ![a, b]⟩ n)) 2147483647#32 h hacc) hc (ix2 i 0)
      = BitVec.ofNat 32 (pick (S i) t).val := by
  rw [shapeCast_a_a1_apply, min_row]
  refine fold_min_removed hb (S i) low (hlow i) t _ fun j => ?_
  rw [select_apply, cmpf_apply, sel_oeq, bcast_col, hX, hm, hV, broadcast_apply, hn]
  exact ⟨fun h => if_pos h, fun h => if_neg h⟩

/-- A round's removal. -/
theorem row_removed (hb : b < 2 ^ 31) (S : Fin a → Fin b → EReal) (low : Ideal .f32) (t : Fin b) (X : FVec Ideal ⟨2, ![a, b]⟩ .f32)
    (hX : ∀ i j, X (ix2 i j) = removed (S i) low t.val j) (sel : IVec ⟨2, ![a, b]⟩ 1)
    (hsel : ∀ i j, sel (ix2 i j) = 1#1 ↔ j = pick (S i) t) (i : Fin a) (j : Fin b) :
    select sel (broadcast ⟨2, ![a, b]⟩ low) X (ix2 i j) = removed (S i) low (t.val + 1) j := by
  rw [select_apply, sel_iff (hsel i j), broadcast_apply, hX]
  refine Eq.trans ?_ (removed_succ (S i) low t j)
  by_cases h : j = pick (S i) t
  · rw [if_pos h, if_pos h]
  · rw [if_neg h, if_neg h]

/-- The mask of each row's picked position. -/
theorem row_sel (hb : b < 2 ^ 31) (S : Fin a → Fin b → EReal) (t : Fin b) (V : IVec ⟨2, ![a, b]⟩ 32) (hV : ∀ i j, V (ix2 i j) = BitVec.ofNat 32 j.val)
    (idx : IVec ⟨2, ![a, 1]⟩ 32) (hidx : ∀ i, idx (ix2 i 0) = BitVec.ofNat 32 (pick (S i) t).val)
    (hbc : Shape.Broadcasts ⟨2, ![a, 1]⟩ ⟨2, ![a, b]⟩) (i : Fin a) (j : Fin b) :
    cmpi .eq V (broadcastTo ⟨2, ![a, b]⟩ idx hbc) (ix2 i j) = 1#1 ↔ j = pick (S i) t := by
  show IntOp.cmpi .eq (V (ix2 i j)) (broadcastTo ⟨2, ![a, b]⟩ idx hbc (ix2 i j)) = 1#1 ↔ _
  rw [cmpi_eq_iff, bcast_col, hV, hidx, ofNat_inj (by omega) (by have := (pick (S i) t).isLt; omega), Fin.ext_iff]

/-- The word of zero. -/
theorem ofBits_zero : Ideal.ofBits .f32 0x00000000#32 = 0 := by simp [Ideal.ofBits, Ideal.ieee]

/-- The word of one. -/
theorem ofBits_one : Ideal.ofBits .f32 0x3F800000#32 = ((1 : ℝ) : EReal) := by
  simp [Ideal.ofBits, Ideal.ieee]
  rw [← EReal.coe_mul]
  norm_num

/-- The word of a half. -/
theorem ofBits_half : Ideal.ofBits .f32 0x3F000000#32 = ((1 / 2 : ℝ) : EReal) := by
  simp [Ideal.ofBits, Ideal.ieee]
  rw [← EReal.coe_mul]
  norm_num

/-- The word of minus 10⁹. -/
theorem ofBits_low : Ideal.ofBits .f32 0xCE6E6B28#32 = ((-1000000000 : ℝ) : EReal) := by
  simp [Ideal.ofBits, Ideal.ieee]
  rw [← EReal.coe_pow, ← EReal.coe_mul]
  norm_num

/-- The word of minus 2·10⁹. -/
theorem ofBits_dead : Ideal.ofBits .f32 0xCEEE6B28#32 = ((-2000000000 : ℝ) : EReal) := by
  simp [Ideal.ofBits, Ideal.ieee]
  rw [← EReal.coe_pow, ← EReal.coe_mul]
  norm_num

/-- The word of minus 3·10⁹. -/
theorem ofBits_gone : Ideal.ofBits .f32 0xCF32D05E#32 = ((-3000000000 : ℝ) : EReal) := by
  simp [Ideal.ofBits, Ideal.ieee]
  rw [← EReal.coe_pow, ← EReal.coe_mul]
  norm_num

/-- Half lies below one. -/
theorem half_lt_one : Ideal.ofBits .f32 0x3F000000#32 < Ideal.ofBits .f32 0x3F800000#32 := by
  rw [ofBits_half, ofBits_one, EReal.coe_lt_coe_iff]
  norm_num

/-- Half is positive. -/
theorem zero_lt_half : Ideal.ofBits .f32 0x00000000#32 < Ideal.ofBits .f32 0x3F000000#32 := by
  rw [ofBits_half, ofBits_zero, ← EReal.coe_zero, EReal.coe_lt_coe_iff]
  norm_num

/-- Whether a mask holds at each row's picked position. -/
theorem row_flag (S : Fin a → Fin b → EReal) (t : Fin b) (sel okm : IVec ⟨2, ![a, b]⟩ 1)
    (hsel : ∀ i j, sel (ix2 i j) = 1#1 ↔ j = pick (S i) t)
    (h : Shape.Reduces ⟨2, ![a, b]⟩ [1] ⟨1, ![a]⟩) (hφ : FKind.Formats .f32) (hacc : 0xFF800000#32 = FKind.maximumf.neutral .f32 hφ)
    (hc : Shape.ShapeCasts ⟨1, ![a]⟩ ⟨2, ![a, 1]⟩) (i : Fin a) :
    cmpf .ogt (shapeCast ⟨2, ![a, 1]⟩ (multiReduction .maximumf [1] ⟨1, ![a]⟩
        (select (andi sel okm) (broadcast ⟨2, ![a, b]⟩ (Scalar.ofBits (F := Ideal) .f32 0x3F800000#32))
          (broadcast ⟨2, ![a, b]⟩ (Scalar.ofBits (F := Ideal) .f32 0x00000000#32))) 0xFF800000#32 h hφ hacc) hc)
        (broadcast ⟨2, ![a, 1]⟩ (Scalar.ofBits (F := Ideal) .f32 0x3F000000#32)) (ix2 i 0) = 1#1
      ↔ okm (ix2 i (pick (S i) t)) = 1#1 := by
  rw [cmpf_apply, ogt_iff, shapeCast_a_a1_apply, max_row, broadcast_apply]
  show Ideal.ofBits .f32 0x3F000000#32 < _ ↔ _
  rw [Finset.lt_fold_max]
  constructor
  · rintro (h0 | ⟨k, -, hk⟩)
    · rw [ofBits_neg_inf] at h0
      exact absurd h0 not_lt_bot
    · rw [select_apply, broadcast_apply, broadcast_apply] at hk
      have e : andi sel okm (ix2 i k) = IntOp.andi (sel (ix2 i k)) (okm (ix2 i k)) := rfl
      rw [e, sel_iff (andi_iff _ _)] at hk
      by_cases hp : sel (ix2 i k) = 1#1 ∧ okm (ix2 i k) = 1#1
      · rw [← (hsel i k).mp hp.1]; exact hp.2
      · rw [if_neg hp] at hk
        exact absurd hk (not_lt.mpr zero_lt_half.le)
  · intro hk
    refine Or.inr ⟨pick (S i) t, Finset.mem_univ _, ?_⟩
    rw [select_apply, broadcast_apply, broadcast_apply]
    have e : andi sel okm (ix2 i (pick (S i) t)) = IntOp.andi (sel (ix2 i (pick (S i) t))) (okm (ix2 i (pick (S i) t))) := rfl
    rw [e, sel_iff (andi_iff _ _), if_pos ⟨(hsel i _).mpr rfl, hk⟩]
    exact half_lt_one

/-! ## Along the columns -/

/-- A round's maximum of each column. -/
theorem col_max (S : Fin a → Fin b → EReal) (low : EReal) (hlow : ∀ i j, low < S i j) (t : Fin a) (X : FVec Ideal ⟨2, ![a, b]⟩ .f32)
    (hX : ∀ i j, X (ix2 i j) = removed (fun k => S k j) low t.val i)
    (h : Shape.Reduces ⟨2, ![a, b]⟩ [0] ⟨1, ![b]⟩) (hφ : FKind.Formats .f32) (hacc : 0xFF800000#32 = FKind.maximumf.neutral .f32 hφ) (j : Fin b) :
    multiReduction .maximumf [0] ⟨1, ![b]⟩ X 0xFF800000#32 h hφ hacc (ix1 j) = S (pick (fun k => S k j) t) j := by
  rw [max_col]
  refine Eq.trans ?_ (fold_max_removed (fun k => S k j) low (fun k => hlow k j) t)
  exact congrArg (fun g => (Finset.univ : Finset (Fin a)).fold max (Ideal.ofBits .f32 0xFF800000#32) g) (funext fun k => hX k j)

/-- A vector along the columns, broadcast over the rows. -/
theorem bcast_row {α : Type} (v : (⟨1, ![b]⟩ : Shape).Idx → α) (hc : Shape.ShapeCasts ⟨1, ![b]⟩ ⟨2, ![1, b]⟩)
    (hbc : Shape.Broadcasts ⟨2, ![1, b]⟩ ⟨2, ![a, b]⟩) (i : Fin a) (j : Fin b) :
    broadcastTo ⟨2, ![a, b]⟩ (shapeCast ⟨2, ![1, b]⟩ v hc) hbc (ix2 i j) = v (ix1 j) := by
  rw [broadcastTo_1b_ab_apply, shapeCast_a_1a_apply]

/-- A round's removal down the columns. -/
theorem col_removed (ha : a < 2 ^ 31) (S : Fin a → Fin b → EReal) (low : Ideal .f32) (hlow : ∀ i j, low < S i j) (t : Fin a)
    (X : FVec Ideal ⟨2, ![a, b]⟩ .f32) (hX : ∀ i j, X (ix2 i j) = removed (fun k => S k j) low t.val i)
    (V : IVec ⟨2, ![a, b]⟩ 32) (hV : ∀ i j, V (ix2 i j) = BitVec.ofNat 32 i.val)
    (m : FVec Ideal ⟨1, ![b]⟩ .f32) (hm : ∀ j, m (ix1 j) = S (pick (fun k => S k j) t) j) (n : BitVec 32) (hn : n = BitVec.ofNat 32 a)
    (hc hc' : Shape.ShapeCasts ⟨1, ![b]⟩ ⟨2, ![1, b]⟩) (hbc hbc' : Shape.Broadcasts ⟨2, ![1, b]⟩ ⟨2, ![a, b]⟩)
    (h : Shape.Reduces ⟨2, ![a, b]⟩ [0] ⟨1, ![b]⟩) (hacc : 2147483647#32 = IKind.minsi.neutral) (i : Fin a) (j : Fin b) :
    select (cmpi .eq V (broadcastTo ⟨2, ![a, b]⟩ (shapeCast ⟨2, ![1, b]⟩ (multiReductionI .minsi [0] ⟨1, ![b]⟩
        (select (cmpf .oeq X (broadcastTo ⟨2, ![a, b]⟩ (shapeCast ⟨2, ![1, b]⟩ m hc) hbc)) V (broadcast ⟨2, ![a, b]⟩ n)) 2147483647#32 h hacc) hc') hbc'))
        (broadcast ⟨2, ![a, b]⟩ low) X (ix2 i j)
      = removed (fun k => S k j) low (t.val + 1) i := by
  have hidx : multiReductionI .minsi [0] ⟨1, ![b]⟩
        (select (cmpf .oeq X (broadcastTo ⟨2, ![a, b]⟩ (shapeCast ⟨2, ![1, b]⟩ m hc) hbc)) V (broadcast ⟨2, ![a, b]⟩ n)) 2147483647#32 h hacc (ix1 j)
      = BitVec.ofNat 32 (pick (fun k => S k j) t).val := by
    rw [min_col]
    refine fold_min_removed ha (fun k => S k j) low (fun k => hlow k j) t _ fun k => ?_
    rw [select_apply, cmpf_apply, sel_oeq, bcast_row, hX, hm, hV, broadcast_apply, hn]
    exact ⟨fun h => if_pos h, fun h => if_neg h⟩
  rw [select_apply]
  have hs : cmpi .eq V (broadcastTo ⟨2, ![a, b]⟩ (shapeCast ⟨2, ![1, b]⟩ (multiReductionI .minsi [0] ⟨1, ![b]⟩
        (select (cmpf .oeq X (broadcastTo ⟨2, ![a, b]⟩ (shapeCast ⟨2, ![1, b]⟩ m hc) hbc)) V (broadcast ⟨2, ![a, b]⟩ n)) 2147483647#32 h hacc) hc') hbc') (ix2 i j) = 1#1
      ↔ i = pick (fun k => S k j) t := by
    show IntOp.cmpi .eq (V (ix2 i j)) (broadcastTo ⟨2, ![a, b]⟩ _ hbc' (ix2 i j)) = 1#1 ↔ _
    rw [cmpi_eq_iff, bcast_row, hV, hidx, ofNat_inj (by omega) (by have := (pick (fun k => S k j) t).isLt; omega), Fin.ext_iff]
  rw [sel_iff hs, broadcast_apply, hX]
  refine Eq.trans ?_ (removed_succ (fun k => S k j) low t i)
  by_cases h : i = pick (fun k => S k j) t
  · rw [if_pos h, if_pos h]
  · rw [if_neg h, if_neg h]

end Cert.Rounds

end
-- ==== Proof.Scores.lean ====
/-
  The cosine scores over the extended reals: a row divided by its norm plus a small constant has entries in [−1, 1], so a score of two
  rows of 256 entries is at least −256.
-/
module

public import proofs.«01_k».proof.Proof.Rounds

@[expose] public section

noncomputable section

namespace Cert.Scores

open Idealize.ShloMosaic
open Cert.Rounds

/-- The small constant added to a norm. -/
abbrev eps : EReal := Scalar.ofBits (F := Ideal) .f32 0x322BCC77#32

/-- The small constant is a positive real. -/
theorem eps_pos : ∃ e : ℝ, 0 < e ∧ eps = (e : EReal) := by
  refine ⟨(11258999 : ℝ) / 2 ^ 50, by positivity, ?_⟩
  show Ideal.ofBits .f32 0x322BCC77#32 = _
  simp [Ideal.ofBits, Ideal.ieee]
  rw [← EReal.coe_mul]
  norm_num

variable {n : Nat}

/-- Entry `k` of a vector divided by its norm plus the small constant. -/
def unit (v : Fin n → EReal) (k : Fin n) : EReal := Ideal.div (v k) (Ideal.sqrt (∑ l, v l * v l) + eps)

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- The entries of a normalized vector are reals in [−1, 1]. -/
theorem unit_bound (v : Fin n → EReal) (k : Fin n) : ∃ u : ℝ, |u| ≤ 1 ∧ unit v k = (u : EReal) := by
  obtain ⟨e, he, hE⟩ := eps_pos
  unfold unit
  rw [hE]
  have hk : v k * v k ≤ ∑ l, v l * v l := Finset.single_le_sum (f := fun l => v l * v l) (fun l _ => sq_nonneg' _) (Finset.mem_univ k)
  have hN : 0 ≤ ∑ l, v l * v l := (sq_nonneg' _).trans hk
  generalize (∑ l, v l * v l) = N at hk hN
  induction N with
  | bot => exact absurd hN (by simp)
  | top =>
    refine ⟨0, by simp, ?_⟩
    have : Ideal.sqrt ⊤ + (e : EReal) = ⊤ := by
      show (⊤ : EReal) + (e : EReal) = ⊤
      exact EReal.top_add_coe e
    rw [this]
    show (if (⊤ : EReal) = 0 then _ else v k * (⊤ : EReal)⁻¹) = _
    rw [if_neg (by simp), EReal.inv_top, mul_zero]
    rfl
  | coe m =>
    have hm : 0 ≤ m := by exact_mod_cast hN
    have hs : Ideal.sqrt (m : EReal) = (Real.sqrt m : EReal) := by
      show (if m < 0 then (⊥ : EReal) else (Real.sqrt m : EReal)) = _
      rw [if_neg (not_lt.2 hm)]
    generalize hx : v k = x at hk
    induction x with
    | bot => rw [EReal.bot_mul_bot] at hk; exact absurd hk (by simp)
    | top => rw [EReal.top_mul_top] at hk; exact absurd hk (by simp)
    | coe r =>
      have hr : r * r ≤ m := by rw [← EReal.coe_mul] at hk; exact_mod_cast hk
      have hd : 0 < Real.sqrt m + e := by have := Real.sqrt_nonneg m; linarith
      refine ⟨r * (Real.sqrt m + e)⁻¹, ?_, ?_⟩
      · rw [abs_mul, abs_inv, abs_of_pos hd, ← div_eq_mul_inv, div_le_one hd]
        have : |r| ≤ Real.sqrt m := Real.abs_le_sqrt (by rw [sq]; exact hr)
        linarith
      · rw [hs, ← EReal.coe_add]
        show (if ((Real.sqrt m + e : ℝ) : EReal) = 0 then _ else (r : EReal) * ((Real.sqrt m + e : ℝ) : EReal)⁻¹) = _
        rw [if_neg (by exact_mod_cast hd.ne'), ← EReal.coe_inv, ← EReal.coe_mul]

/-- A sum of reals, as a sum of extended reals. -/
theorem coe_sum (f : Fin n → ℝ) : ((∑ k, f k : ℝ) : EReal) = ∑ k, (f k : EReal) := by
  classical
  refine Finset.induction_on (Finset.univ : Finset (Fin n)) (by simp) fun a s ha ih => ?_
  rw [Finset.sum_insert ha, Finset.sum_insert ha, EReal.coe_add, ih]

/-- The score of two vectors: the inner product of the normalized vectors. -/
def score (v w : Fin n → EReal) : EReal := ∑ k, unit v k * unit w k

/-- A score is at least minus the number of entries. -/
theorem score_bound (v w : Fin n → EReal) : ((-(n : ℝ) : ℝ) : EReal) ≤ score v w := by
  choose a ha ea using unit_bound v
  choose b hb eb using unit_bound w
  have : score v w = ((∑ k, a k * b k : ℝ) : EReal) := by
    unfold score
    rw [coe_sum]
    exact Finset.sum_congr rfl fun k _ => by rw [ea, eb, EReal.coe_mul]
  rw [this, EReal.coe_le_coe_iff]
  have h : ∀ k, -1 ≤ a k * b k := fun k => by
    have : |a k * b k| ≤ 1 := by rw [abs_mul]; exact mul_le_one₀ (ha k) (abs_nonneg _) (hb k)
    exact (abs_le.1 this).1
  calc -(n : ℝ) = ∑ _k : Fin n, (-1 : ℝ) := by simp
    _ ≤ _ := Finset.sum_le_sum fun k _ => h k

end Cert.Scores

end
-- ==== Proof.Reference.lean ====
/-
  The reference's results, read at an index: the masked scores, the marks of the three greatest entries of every row and every column,
  the flat list of the mutual entries, and the row, the column and the score of its entry of rank `r`.
-/
module

public import proofs.«01_k».proof.Proof.HostMarks
public import proofs.«01_k».proof.Proof.Scores
public import proofs.«01_k».proof.Proof.Gen.ReferenceIdeal.Run
public import Idealize.ShloMosaic.Lib.StackMember

@[expose] public section

noncomputable section

namespace Cert.Reference

open Idealize.ShloMosaic Idealize.ShloMosaic.ValueIdx Idealize.ShloMosaic.TcCoe Idealize.SL.Sem
open Cert.ReferenceIdeal Cert.ReferenceIdeal.Gen Cert.ReferenceIdeal.Value
open Cert.Ranks Cert.Tops Cert.HostMarks Cert.Scores Cert.Rounds Cert.Reads Cert.Mutual

/-! ## The stages of the reference -/

/-- The rows of the image features, normalized. -/
def unitRows (a : FVec Ideal S1008x256 .f32) : FVec Ideal S1008x256 .f32 :=
  Host.divf a (broadcastInDim S1008x256 ![0, 1] bcast_S1008x1_S1008x256_0_1 (addf (Host.sqrt (broadcastInDim S1008x1 ![0] bcast_S1008_S1008x1_0 (Host.reduceAdd (mulf a a) (constant S_ .f32 0x00000000#32) reducesTo_S1008x256_S1008_d1 h_S_))) (broadcastInDim S1008x1 ![] bcast_S_S1008x1 (constant S_ .f32 0x322BCC77#32))))

/-- The rows of the cloud features, normalized. -/
def unitCols (b : FVec Ideal S4096x256 .f32) : FVec Ideal S4096x256 .f32 :=
  Host.divf b (broadcastInDim S4096x256 ![0, 1] bcast_S4096x1_S4096x256_0_1 (addf (Host.sqrt (broadcastInDim S4096x1 ![0] bcast_S4096_S4096x1_0 (Host.reduceAdd (mulf b b) (constant S_ .f32 0x00000000#32) reducesTo_S4096x256_S4096_d1 h_S_))) (broadcastInDim S4096x1 ![] bcast_S_S4096x1 (constant S_ .f32 0x322BCC77#32))))

/-- Both masks hold. -/
def valid (p : IVec S1008 1) (q : IVec S4096 1) : IVec S1008x4096 1 :=
  andi (broadcastInDim S1008x4096 ![0, 1] bcast_S1008x1_S1008x4096_0_1 (broadcastInDim S1008x1 ![0] bcast_S1008_S1008x1_0 p)) (broadcastInDim S1008x4096 ![0, 1] bcast_S1x4096_S1008x4096_0_1 (broadcastInDim S1x4096 ![1] bcast_S4096_S1x4096_1 q))

/-- The masked scores. -/
def masked (a : FVec Ideal S1008x256 .f32) (b : FVec Ideal S4096x256 .f32) (p : IVec S1008 1) (q : IVec S4096 1) : FVec Ideal S1008x4096 .f32 :=
  select (valid p q) (Host.dotGeneral dot_S1008x256_S256x4096_S1008x4096_1_0_0_1_n_n none (unitRows a) (transpose S256x4096 [1, 0] (unitCols b) transposes_S4096x256_S256x4096_1_0)) (broadcastInDim S1008x4096 ![] bcast_S_S1008x4096 (id (constant S_ .f32 0xCE6E6B28#32)))

/-- The marks of the three greatest entries of every row. -/
def rowMarks (X : FVec Ideal S1008x4096 .f32) : IVec S1008x4096 1 :=
  Host.scatter scatter_S1008x4096_S1008x3x2_S1008x3_n_01_01_2 (fun _ b => b) (broadcastInDim S1008x4096 ![] bcast_S_S1008x4096 (constantI S_ 1 0#1)) (concatenate S1008x3x2 2 [⟨S1008x3x1, (broadcastInDim S1008x3x1 ![0, 1] bcast_S1008x3_S1008x3x1_0_1 (broadcastInDim S1008x3 ![0, 1] bcast_S1008x1_S1008x3_0_1 (select (cmpi .slt (broadcastInDim S1008x1 ![0] bcast_S1008_S1008x1_0 (iotaInDim S1008 32 0)) (broadcastInDim S1008x1 ![] bcast_S_S1008x1 (constantI S_ 32 0#32))) (addi (broadcastInDim S1008x1 ![0] bcast_S1008_S1008x1_0 (iotaInDim S1008 32 0)) (broadcastInDim S1008x1 ![] bcast_S_S1008x1 (constantI S_ 32 1008#32))) (broadcastInDim S1008x1 ![0] bcast_S1008_S1008x1_0 (iotaInDim S1008 32 0)))))⟩, ⟨S1008x3x1, (broadcastInDim S1008x3x1 ![0, 1] bcast_S1008x3_S1008x3x1_0_1 (select (cmpi .slt ((Host.topK S1008x3 1 (FloatOps.cmpfTotal .gt) X sliceFits_S1008x4096_S1008x3).2) (broadcastInDim S1008x3 ![] bcast_S_S1008x3 (constantI S_ 32 0#32))) (addi ((Host.topK S1008x3 1 (FloatOps.cmpfTotal .gt) X sliceFits_S1008x4096_S1008x3).2) (broadcastInDim S1008x3 ![] bcast_S_S1008x3 (constantI S_ 32 4096#32))) ((Host.topK S1008x3 1 (FloatOps.cmpfTotal .gt) X sliceFits_S1008x4096_S1008x3).2)))⟩] concatenates_S1008x3x1_S1008x3x1_S1008x3x2_d2) (broadcastInDim S1008x3 ![] bcast_S_S1008x3 (constantI S_ 1 1#1))

/-- The marks of the three greatest entries of every row, of the transposed matrix. -/
def colMarks (X : FVec Ideal S4096x1008 .f32) : IVec S4096x1008 1 :=
  Host.scatter scatter_S4096x1008_S4096x3x2_S4096x3_n_01_01_2 (fun _ b => b) (broadcastInDim S4096x1008 ![] bcast_S_S4096x1008 (constantI S_ 1 0#1)) (concatenate S4096x3x2 2 [⟨S4096x3x1, (broadcastInDim S4096x3x1 ![0, 1] bcast_S4096x3_S4096x3x1_0_1 (broadcastInDim S4096x3 ![0, 1] bcast_S4096x1_S4096x3_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x3x1, (broadcastInDim S4096x3x1 ![0, 1] bcast_S4096x3_S4096x3x1_0_1 (select (cmpi .slt ((Host.topK S4096x3 1 (FloatOps.cmpfTotal .gt) X sliceFits_S4096x1008_S4096x3).2) (broadcastInDim S4096x3 ![] bcast_S_S4096x3 (constantI S_ 32 0#32))) (addi ((Host.topK S4096x3 1 (FloatOps.cmpfTotal .gt) X sliceFits_S4096x1008_S4096x3).2) (broadcastInDim S4096x3 ![] bcast_S_S4096x3 (constantI S_ 32 1008#32))) ((Host.topK S4096x3 1 (FloatOps.cmpfTotal .gt) X sliceFits_S4096x1008_S4096x3).2)))⟩] concatenates_S4096x3x1_S4096x3x1_S4096x3x2_d2) (broadcastInDim S4096x3 ![] bcast_S_S4096x3 (constantI S_ 1 1#1))

/-- The flat list of the mutual entries. -/
def flatList (X : FVec Ideal S1008x4096 .f32) (V : IVec S1008x4096 1) : FVec Ideal S4128768 .f32 :=
  shapeCast S4128768 (select (andi (andi (andi (rowMarks X) (transpose S1008x4096 [1, 0] (colMarks (transpose S4096x1008 [1, 0] X transposes_S1008x4096_S4096x1008_1_0)) transposes_S4096x1008_S1008x4096_1_0)) V) (cmpf .ogt X (broadcastInDim S1008x4096 ![] bcast_S_S1008x4096 (constant S_ .f32 0x00000000#32)))) X (broadcastInDim S1008x4096 ![] bcast_S_S1008x4096 (id (constant S_ .f32 0xCE6E6B28#32)))) shapeCasts_S1008x4096_S4128768

/-- The greatest 256 entries of a list, and their positions. -/
def top (L : FVec Ideal S4128768 .f32) : FVec Ideal S256 .f32 × IVec S256 32 :=
  Host.topK S256 0 (FloatOps.cmpfTotal .gt) L sliceFits_S4128768_S256

/-- The rows of flat positions. -/
def row (T : IVec S256 32) : IVec S256 32 :=
  select (andi (cmpi .ne (signi T) (broadcastInDim S256 ![] bcast_S_S256 (signi (id (constantI S_ 32 4096#32))))) (cmpi .ne (Host.remsi T (broadcastInDim S256 ![] bcast_S_S256 (id (constantI S_ 32 4096#32)))) (broadcastInDim S256 ![] bcast_S_S256 (constantI S_ 32 0#32)))) (subi (Host.divsi T (broadcastInDim S256 ![] bcast_S_S256 (id (constantI S_ 32 4096#32)))) (broadcastInDim S256 ![] bcast_S_S256 (constantI S_ 32 1#32))) (Host.divsi T (broadcastInDim S256 ![] bcast_S_S256 (id (constantI S_ 32 4096#32))))

/-- The columns of flat positions. -/
def col (T : IVec S256 32) : IVec S256 32 :=
  select (andi (cmpi .ne (cmpi .slt (Host.remsi T (broadcastInDim S256 ![] bcast_S_S256 (select (cmpi .eq (id (constantI S_ 32 4096#32)) (constantI S_ 32 0#32)) (constantI S_ 32 1#32) (id (constantI S_ 32 4096#32))))) (broadcastInDim S256 ![] bcast_S_S256 (constantI S_ 32 0#32))) (broadcastInDim S256 ![] bcast_S_S256 (cmpi .slt (select (cmpi .eq (id (constantI S_ 32 4096#32)) (constantI S_ 32 0#32)) (constantI S_ 32 1#32) (id (constantI S_ 32 4096#32))) (constantI S_ 32 0#32)))) (cmpi .ne (Host.remsi T (broadcastInDim S256 ![] bcast_S_S256 (select (cmpi .eq (id (constantI S_ 32 4096#32)) (constantI S_ 32 0#32)) (constantI S_ 32 1#32) (id (constantI S_ 32 4096#32))))) (broadcastInDim S256 ![] bcast_S_S256 (constantI S_ 32 0#32)))) (addi (Host.remsi T (broadcastInDim S256 ![] bcast_S_S256 (select (cmpi .eq (id (constantI S_ 32 4096#32)) (constantI S_ 32 0#32)) (constantI S_ 32 1#32) (id (constantI S_ 32 4096#32))))) (broadcastInDim S256 ![] bcast_S_S256 (select (cmpi .eq (id (constantI S_ 32 4096#32)) (constantI S_ 32 0#32)) (constantI S_ 32 1#32) (id (constantI S_ 32 4096#32))))) (Host.remsi T (broadcastInDim S256 ![] bcast_S_S256 (select (cmpi .eq (id (constantI S_ 32 4096#32)) (constantI S_ 32 0#32)) (constantI S_ 32 1#32) (id (constantI S_ 32 4096#32)))))

variable (m : (ℓ : Loc nD τ sig) → Buf (Elt Ideal) ℓ) (c : Dev nD)

/-- The masked scores of the launch's arguments. -/
def scoresOf : FVec Ideal S1008x4096 .f32 :=
  masked (m ((c.tc : Thread nD τ).loc main_arg0)) (m ((c.tc : Thread nD τ).loc main_arg1)) (m ((c.tc : Thread nD τ).loc main_arg2)) (m ((c.tc : Thread nD τ).loc main_arg3))

/-- The greatest 256 mutual entries of the launch's arguments. -/
def topOf : FVec Ideal S256 .f32 × IVec S256 32 :=
  top (flatList (scoresOf m c) (valid (m ((c.tc : Thread nD τ).loc main_arg2)) (m ((c.tc : Thread nD τ).loc main_arg3))))

/-- The scores result, by stages. -/
theorem res_values : res_out2 m c = (topOf m c).1 := by
  unfold res_out2 res_main_values_17 topOf top flatList rowMarks colMarks scoresOf masked valid unitRows unitCols; rfl

/-- The rows result, by stages. -/
theorem res_rows : res_out0 m c = row (topOf m c).2 := by
  unfold res_out0 res_main_v65 row topOf top flatList rowMarks colMarks scoresOf masked valid unitRows unitCols; rfl

/-- The columns result, by stages. -/
theorem res_cols : res_out1 m c = col (topOf m c).2 := by
  unfold res_out1 res_main_v66 col topOf top flatList rowMarks colMarks scoresOf masked valid unitRows unitCols; rfl

/-! ## The stages read at an index -/

/-- A normalized row at an entry, at any extents. -/
theorem unit_apply {a b : Nat} (A : FVec Ideal ⟨2, ![a, b]⟩ .f32) (h1 : (⟨2, ![a, 1]⟩ : Shape).BroadcastsInDim ⟨2, ![a, b]⟩ ![0, 1])
    (h2 : (⟨1, ![a]⟩ : Shape).BroadcastsInDim ⟨2, ![a, 1]⟩ ![0]) (hr : (⟨2, ![a, b]⟩ : Shape).ReducesTo [1] ⟨1, ![a]⟩)
    (hr' : (⟨2, ![a, b]⟩ : Shape).Reduces [1] ⟨1, ![a]⟩)
    (h3 : (⟨0, ![]⟩ : Shape).BroadcastsInDim ⟨2, ![a, 1]⟩ ![]) (hu : 0 < (⟨0, ![]⟩ : Shape).numel) (i : Fin a) (k : Fin b) :
    Host.divf A (broadcastInDim ⟨2, ![a, b]⟩ ![0, 1] h1 (addf (Host.sqrt (broadcastInDim ⟨2, ![a, 1]⟩ ![0] h2
      (Host.reduceAdd (mulf A A) (constant ⟨0, ![]⟩ .f32 0x00000000#32) hr hu))) (broadcastInDim ⟨2, ![a, 1]⟩ ![] h3 (constant ⟨0, ![]⟩ .f32 0x322BCC77#32)))) (ix2 i k)
      = unit (fun l => A (ix2 i l)) k := by
  have : Host.reduceAdd (mulf A A) (constant ⟨0, ![]⟩ .f32 0x00000000#32) hr hu (ix1 i) = ∑ l, A (ix2 i l) * A (ix2 i l) := by
    refine (Ideal.hostReduceAdd_single hr hr' (mulf A A) _ (ix1 i)).trans ?_
    show Ideal.ofBits .f32 0x00000000#32 + _ = _
    rw [ofBits_zero, zero_add]
    exact Finset.sum_congr rfl fun l _ => congrArg (fun z => A z * A z) (lift_row hr' i l)
  refine (congrArg (Ideal.div (A (ix2 i k))) (bcast_along (a := a) (b := b) _ h1 i k)).trans ?_
  exact congrArg (Ideal.div (A (ix2 i k))) (congrArg (fun z => Ideal.sqrt z + eps) ((bcast_column _ h2 i).trans this))

/-- The score at an entry. -/
theorem dot_apply {a b n : Nat} (A : FVec Ideal ⟨2, ![a, n]⟩ .f32) (B : FVec Ideal ⟨2, ![b, n]⟩ .f32)
    (h : (⟨2, ![b, n]⟩ : Shape).Transposes [1, 0] ⟨2, ![n, b]⟩) (i : Fin a) (j : Fin b) :
    Host.dotGeneral (DotDims.plain a n b) none A (transpose ⟨2, ![n, b]⟩ [1, 0] B h) (ix2 i j) = ∑ k : Fin n, A (ix2 i k) * B (ix2 j k) := by
  rw [StackMember.dotGeneral_plain_apply]
  exact Finset.sum_congr rfl fun k _ => congrArg (A (ix2 i k) * ·) (transpose_ix2_apply B h k j)

/-- Both masks at an entry, at any extents. -/
theorem valid_at {a b : Nat} (p : IVec ⟨1, ![a]⟩ 1) (q : IVec ⟨1, ![b]⟩ 1) (h1 : (⟨2, ![a, 1]⟩ : Shape).BroadcastsInDim ⟨2, ![a, b]⟩ ![0, 1])
    (h2 : (⟨1, ![a]⟩ : Shape).BroadcastsInDim ⟨2, ![a, 1]⟩ ![0]) (h3 : (⟨2, ![1, b]⟩ : Shape).BroadcastsInDim ⟨2, ![a, b]⟩ ![0, 1])
    (h4 : (⟨1, ![b]⟩ : Shape).BroadcastsInDim ⟨2, ![1, b]⟩ ![1]) (i : Fin a) (j : Fin b) :
    andi (broadcastInDim ⟨2, ![a, b]⟩ ![0, 1] h1 (broadcastInDim ⟨2, ![a, 1]⟩ ![0] h2 p))
      (broadcastInDim ⟨2, ![a, b]⟩ ![0, 1] h3 (broadcastInDim ⟨2, ![1, b]⟩ ![1] h4 q)) (ix2 i j) = 1#1 ↔ p (ix1 i) = 1#1 ∧ q (ix1 j) = 1#1 := by
  rw [andi_apply, bcast_along, bcast_column, bcast_down, HostMarks.bcast_row]
  generalize p (ix1 i) = x
  generalize q (ix1 j) = y
  revert x y
  decide

/-- Both masks at an entry. -/
theorem valid_apply (p : IVec S1008 1) (q : IVec S4096 1) (i : Fin 1008) (j : Fin 4096) :
    valid p q (ix2 i j) = 1#1 ↔ p (ix1 i) = 1#1 ∧ q (ix1 j) = 1#1 := by
  unfold valid
  exact valid_at (a := 1008) (b := 4096) p q _ _ _ _ i j

/-- The constant of an entry whose masks do not both hold. -/
abbrev low : EReal := Scalar.ofBits (F := Ideal) .f32 0xCE6E6B28#32

/-- The constant is negative. -/
theorem low_neg : low < 0 := by
  show Ideal.ofBits .f32 0xCE6E6B28#32 < 0
  rw [ofBits_low]
  exact_mod_cast (by norm_num : (-1000000000 : ℝ) < 0)

open Classical in
/-- The matrix of masked scores. -/
def scores (a : FVec Ideal S1008x256 .f32) (b : FVec Ideal S4096x256 .f32) (p : IVec S1008 1) (q : IVec S4096 1) (i : Fin 1008) (j : Fin 4096) : EReal :=
  if p (ix1 i) = 1#1 ∧ q (ix1 j) = 1#1 then score (fun k => a (ix2 i k)) (fun k => b (ix2 j k)) else low

/-- A masked score at an entry. -/
theorem masked_apply (a : FVec Ideal S1008x256 .f32) (b : FVec Ideal S4096x256 .f32) (p : IVec S1008 1) (q : IVec S4096 1) (i : Fin 1008) (j : Fin 4096) :
    masked a b p q (ix2 i j) = scores a b p q i j := by
  obtain ⟨A, hA, hA'⟩ : ∃ A, unitRows a = A ∧ ∀ i k, A (ix2 i k) = unit (fun l => a (ix2 i l)) k :=
    ⟨_, rfl, fun i k => by unfold unitRows; exact unit_apply (a := 1008) (b := 256) a _ _ _ (by decide) _ _ i k⟩
  obtain ⟨B, hB, hB'⟩ : ∃ B, unitCols b = B ∧ ∀ j k, B (ix2 j k) = unit (fun l => b (ix2 j l)) k :=
    ⟨_, rfl, fun i k => by unfold unitCols; exact unit_apply (a := 4096) (b := 256) b _ _ _ (by decide) _ _ i k⟩
  unfold masked
  rw [hA, hB, select_apply, sel_iff (valid_apply p q i j)]
  unfold scores
  by_cases h : p (ix1 i) = 1#1 ∧ q (ix1 j) = 1#1
  · rw [if_pos h, if_pos h]
    refine (dot_apply (a := 1008) (b := 4096) (n := 256) A B _ i j).trans ?_
    exact Finset.sum_congr rfl fun k _ => by rw [hA', hB']
  · rw [if_neg h, if_neg h]
    rfl

/-- A row's mark says that the entry is among the row's three first. -/
theorem rowMarks_apply (X : FVec Ideal S1008x4096 .f32) (i : Fin 1008) (j : Fin 4096) :
    rowMarks X (ix2 i j) = 1#1 ↔ rank (fun b => X (ix2 i b)) j < 3 := by
  unfold rowMarks
  exact top_marks (a := 1008) (n := 4096) (k := 3) _ rfl rfl rfl (by norm_num) (by norm_num) (by norm_num) X _ _ _ _ _ _ _ _ _ _ i j

/-- A row's mark of the transposed matrix says that the entry is among the row's three first. -/
theorem colMarks_apply (X : FVec Ideal S4096x1008 .f32) (i : Fin 4096) (j : Fin 1008) :
    colMarks X (ix2 i j) = 1#1 ↔ rank (fun b => X (ix2 i b)) j < 3 := by
  unfold colMarks
  exact top_marks (a := 4096) (n := 1008) (k := 3) _ rfl rfl rfl (by norm_num) (by norm_num) (by norm_num) X _ _ _ _ _ _ _ _ _ _ i j

/-- The flat list at a position. -/
theorem flatList_apply (X : FVec Ideal S1008x4096 .f32) (V : IVec S1008x4096 1) (M : Fin 1008 → Fin 4096 → EReal)
    (hX : ∀ i j, X (ix2 i j) = M i j) (hV : ∀ i j, 0 < M i j → V (ix2 i j) = 1#1) (n : Fin 4128768) :
    flatList X V (ix1 n) = flat M low n := by
  unfold flatList
  refine (shapeCast_apply _ _ (ix1 n) (ix2 (rowOf n) (colOf n)) ?_).trans ?_
  · rw [Shape.rowMajor_val_two, Shape.rowMajor_val_one]
    show n.val / 4096 * 4096 + n.val % 4096 = n.val
    omega
  · unfold flat
    rw [select_apply, andi_apply, andi_apply, andi_apply, cmpf_apply]
    have e : transpose S1008x4096 [1, 0] (colMarks (transpose S4096x1008 [1, 0] X transposes_S1008x4096_S4096x1008_1_0)) transposes_S4096x1008_S1008x4096_1_0
        (ix2 (rowOf n) (colOf n)) = 1#1 ↔ rank (fun a => M a (colOf n)) (rowOf n) < 3 := by
      rw [show transpose S1008x4096 [1, 0] (colMarks (transpose S4096x1008 [1, 0] X transposes_S1008x4096_S4096x1008_1_0)) transposes_S4096x1008_S1008x4096_1_0
        (ix2 (rowOf n) (colOf n)) = _ from transpose_ix2_apply _ _ (rowOf n) (colOf n), colMarks_apply]
      have : (fun b => transpose S4096x1008 [1, 0] X transposes_S1008x4096_S4096x1008_1_0 (ix2 (colOf n) b)) = fun a => M a (colOf n) :=
        funext fun b => (transpose_ix2_apply X _ (colOf n) b).trans (hX b (colOf n))
      exact iff_of_eq (congrArg (fun f => rank f (rowOf n) < 3) this)
    have f : rowMarks X (ix2 (rowOf n) (colOf n)) = 1#1 ↔ rank (M (rowOf n)) (colOf n) < 3 := by
      rw [rowMarks_apply]
      exact iff_of_eq (congrArg (fun f => rank f (colOf n) < 3) (funext fun b => hX (rowOf n) b))
    have g : FloatOps.cmpf (F := Ideal) (φ := .f32) .ogt (X (ix2 (rowOf n) (colOf n)))
        (broadcastInDim S1008x4096 ![] bcast_S_S1008x4096 (constant (F := Ideal) S_ .f32 0x00000000#32) (ix2 (rowOf n) (colOf n))) = 1#1 ↔ 0 < M (rowOf n) (colOf n) := by
      rw [show broadcastInDim S1008x4096 ![] bcast_S_S1008x4096 (constant (F := Ideal) S_ .f32 0x00000000#32) (ix2 (rowOf n) (colOf n)) = 0 from ofBits_zero,
        ogt_iff, hX]
    refine (sel_iff (P := Mut M (rowOf n) (colOf n)) ?_ _ _).trans ?_
    · rw [andi_iff, andi_iff, andi_iff, e, f, g]
      exact ⟨fun h => ⟨h.1.1.1, h.1.1.2, h.2⟩, fun h => ⟨⟨⟨h.1, h.2.1⟩, hV _ _ h.2.2⟩, h.2.2⟩⟩
    · rw [hX]
      by_cases hm : Mut M (rowOf n) (colOf n)
      · rw [if_pos hm, if_pos hm]
      · rw [if_neg hm, if_neg hm]
        rfl

/-- The greatest entries of a list. -/
theorem top_fst (L : FVec Ideal S4128768 .f32) (l : Fin 4128768 → EReal) (hL : ∀ n, L (ix1 n) = l n) (r : Fin 256) :
    (top L).1 (ix1 r) = l (pick l (r.castLE (by norm_num))) := by
  obtain rfl : (fun n => L (ix1 n)) = l := funext hL
  unfold top
  exact top1_values (n := 4128768) (k := 256) L _ (by norm_num) r

/-- Their positions. -/
theorem top_snd (L : FVec Ideal S4128768 .f32) (l : Fin 4128768 → EReal) (hL : ∀ n, L (ix1 n) = l n) (r : Fin 256) :
    (top L).2 (ix1 r) = BitVec.ofNat 32 (pick l (r.castLE (by norm_num))).val := by
  obtain rfl : (fun n => L (ix1 n)) = l := funext hL
  unfold top
  exact top1_indices (n := 4128768) (k := 256) L _ (by norm_num) r

/-! ## Rows and columns of flat positions -/

/-- The sign of a word. -/
def sg (x : BitVec 32) : BitVec 32 := if x = 0 then 0 else if x.msb then -1 else 1

/-- A small word is not negative. -/
theorem msb_small (n : Nat) (hn : n < 2 ^ 31) : (BitVec.ofNat 32 n).msb = false := by
  rw [BitVec.msb_eq_decide, decide_eq_false_iff_not, BitVec.toNat_ofNat]
  omega

/-- Signed division of a small word by 4096. -/
theorem div_word (u : ArithUnit) (n : Nat) (hn : n < 2 ^ 31) : IntOp.divsi u (BitVec.ofNat 32 n) 4096#32 = BitVec.ofNat 32 (n / 4096) := by
  have hc : ¬ IntOp.SDivCorner (BitVec.ofNat 32 n) 4096#32 := by
    rintro (hc | ⟨_, hc⟩) <;> exact absurd hc (by decide)
  apply BitVec.eq_of_toNat_eq
  simp only [IntOp.divsi, if_neg hc, BitVec.sdiv_eq, msb_small n hn, show (4096#32).msb = false from by decide, BitVec.udiv_eq, BitVec.toNat_udiv, BitVec.toNat_ofNat]
  rw [Nat.mod_eq_of_lt (show n < 2 ^ 32 by omega), show 4096 % 2 ^ 32 = 4096 from rfl]
  omega

/-- Signed remainder of a small word by 4096. -/
theorem rem_word (u : ArithUnit) (n : Nat) (hn : n < 2 ^ 31) : IntOp.remsi u (BitVec.ofNat 32 n) 4096#32 = BitVec.ofNat 32 (n % 4096) := by
  have hc : ¬ IntOp.SDivCorner (BitVec.ofNat 32 n) 4096#32 := by
    rintro (hc | ⟨_, hc⟩) <;> exact absurd hc (by decide)
  apply BitVec.eq_of_toNat_eq
  simp only [IntOp.remsi, if_neg hc, BitVec.srem_eq, msb_small n hn, show (4096#32).msb = false from by decide, BitVec.umod_eq, BitVec.toNat_umod, BitVec.toNat_ofNat]
  rw [Nat.mod_eq_of_lt (show n < 2 ^ 32 by omega), show 4096 % 2 ^ 32 = 4096 from rfl]
  omega

/-- The row of a small flat position. -/
theorem row_apply (T : IVec S256 32) (r : Fin 256) (n : Nat) (hn : n < 2 ^ 31) (hT : T (ix1 r) = BitVec.ofNat 32 n) :
    row T (ix1 r) = BitVec.ofNat 32 (n / 4096) := by
  have h : row T (ix1 r) = Scalar.select (IntOp.andi (IntOp.cmpi .ne (sg (T (ix1 r))) (sg 4096#32)) (IntOp.cmpi .ne (IntOp.remsi .host (T (ix1 r)) 4096#32) 0#32))
      (IntOp.subi (IntOp.divsi .host (T (ix1 r)) 4096#32) 1#32) (IntOp.divsi .host (T (ix1 r)) 4096#32) := rfl
  rw [h, hT, div_word _ n hn, rem_word _ n hn]
  have : IntOp.andi (IntOp.cmpi .ne (sg (BitVec.ofNat 32 n)) (sg 4096#32)) (IntOp.cmpi .ne (BitVec.ofNat 32 (n % 4096)) 0#32) ≠ 1#1 := by
    by_cases hz : BitVec.ofNat 32 n = 0
    · have : n = 0 := by
        have := congrArg BitVec.toNat hz
        rw [BitVec.toNat_ofNat] at this
        simp at this
        omega
      subst this
      decide
    · have : sg (BitVec.ofNat 32 n) = 1 := by
        unfold sg
        rw [if_neg hz, msb_small n hn]
        rfl
      rw [this, Ne, andi_iff]
      intro h
      exact absurd h.1 (by decide)
  rw [sel_iff Iff.rfl, if_neg this]

/-- The column of a small flat position. -/
theorem col_apply (T : IVec S256 32) (r : Fin 256) (n : Nat) (hn : n < 2 ^ 31) (hT : T (ix1 r) = BitVec.ofNat 32 n) :
    col T (ix1 r) = BitVec.ofNat 32 (n % 4096) := by
  have h : col T (ix1 r) = Scalar.select (IntOp.andi (IntOp.cmpi .ne (IntOp.cmpi .slt (IntOp.remsi .host (T (ix1 r)) 4096#32) 0#32) (IntOp.cmpi .slt 4096#32 0#32))
      (IntOp.cmpi .ne (IntOp.remsi .host (T (ix1 r)) 4096#32) 0#32))
      (IntOp.addi (IntOp.remsi .host (T (ix1 r)) 4096#32) 4096#32) (IntOp.remsi .host (T (ix1 r)) 4096#32) := rfl
  rw [h, hT, rem_word _ n hn]
  have : IntOp.andi (IntOp.cmpi .ne (IntOp.cmpi .slt (BitVec.ofNat 32 (n % 4096)) 0#32) (IntOp.cmpi .slt 4096#32 0#32))
      (IntOp.cmpi .ne (BitVec.ofNat 32 (n % 4096)) 0#32) ≠ 1#1 := by
    have hs : IntOp.cmpi .slt (BitVec.ofNat 32 (n % 4096)) 0#32 = 0#1 := by
      show BitVec.ofBool (BitVec.slt _ _) = _
      rw [BitVec.slt_eq_decide, BitVec.toInt_eq_toNat_of_msb (msb_small _ (by omega)), decide_eq_false (by
        rw [show (0#32).toInt = 0 from rfl]
        exact not_lt.mpr (Int.natCast_nonneg _))]
      rfl
    rw [hs, Ne, andi_iff]
    intro h
    exact absurd h.1 (by decide)
  rw [sel_iff Iff.rfl, if_neg this]

/-- A score above the constant is an entry whose masks both hold. -/
theorem valid_of_pos (a : FVec Ideal S1008x256 .f32) (b : FVec Ideal S4096x256 .f32) (p : IVec S1008 1) (q : IVec S4096 1) (i : Fin 1008) (j : Fin 4096)
    (h : 0 < scores a b p q i j) : valid p q (ix2 i j) = 1#1 := by
  rw [valid_apply]
  by_contra hn
  unfold scores at h
  rw [if_neg hn] at h
  exact absurd (h.trans low_neg) (lt_irrefl _)

/-- The three results of the reference at rank `r`, from the matrix of masked scores. -/
theorem results_apply (r : Fin 256) (M : Fin 1008 → Fin 4096 → EReal)
    (hM : scores (m ((c.tc : Thread nD τ).loc main_arg0)) (m ((c.tc : Thread nD τ).loc main_arg1)) (m ((c.tc : Thread nD τ).loc main_arg2))
      (m ((c.tc : Thread nD τ).loc main_arg3)) = M) :
    (res_out0 m c : IVec S256 32) (ix1 r) = BitVec.ofNat 32 ((pick (flat M low) (r.castLE (by norm_num))).val / 4096)
    ∧ (res_out1 m c : IVec S256 32) (ix1 r) = BitVec.ofNat 32 ((pick (flat M low) (r.castLE (by norm_num))).val % 4096)
    ∧ (res_out2 m c : FVec Ideal S256 .f32) (ix1 r) = flat M low (pick (flat M low) (r.castLE (by norm_num))) := by
  have hL := flatList_apply (scoresOf m c) (valid (m ((c.tc : Thread nD τ).loc main_arg2)) (m ((c.tc : Thread nD τ).loc main_arg3))) M
    (fun i j => (masked_apply _ _ _ _ i j).trans (congrFun (congrFun hM i) j))
    (fun i j h => valid_of_pos _ _ _ _ i j (by rw [hM]; exact h))
  have hlt := (pick (flat M low) (r.castLE (by norm_num))).isLt
  refine ⟨?_, ?_, ?_⟩
  · rw [res_rows]
    exact row_apply _ r _ (by omega) (top_snd _ _ hL r)
  · rw [res_cols]
    exact col_apply _ r _ (by omega) (top_snd _ _ hL r)
  · rw [res_values]
    exact top_fst _ _ hL r

end Cert.Reference

end
-- ==== Proof.NoColumnTie.lean ====
/-
  The precondition, read: in every column of the masked scores at most three positive entries are at least the column's third entry.
-/
module

public import proofs.«01_k».proof.Proof.Reference
public import proofs.«01_k».proof.Proof.Gen.Pre_no_column_tie
public import Idealize.ShloMosaic.Lib.StableHlo.Predicate
public import Idealize.ShloMosaic.Lib.ReduceAll

@[expose] public section

noncomputable section

namespace Cert.NoColumnTie

open Idealize.ShloMosaic Idealize.ShloMosaic.ValueIdx
open Cert.Pre_no_column_tie Cert.Pre_no_column_tie.Facts
open Cert.Ranks Cert.Tops Cert.HostMarks Cert.Rounds Cert.Reads Cert.Mutual

/-- The third entries of the rows of a matrix of three columns, laid along every row. -/
theorem third_at {a b : Nat} (W : FVec Ideal ⟨2, ![b, 3]⟩ .f32) (h1 : (⟨2, ![b, 3]⟩ : Shape).Slices ![0, 2] ⟨2, ![b, 1]⟩)
    (h2 : (⟨2, ![b, 1]⟩ : Shape).ShapeCasts ⟨1, ![b]⟩) (h3 : (⟨1, ![b]⟩ : Shape).BroadcastsInDim ⟨2, ![1, b]⟩ ![1])
    (h4 : (⟨2, ![1, b]⟩ : Shape).BroadcastsInDim ⟨2, ![a, b]⟩ ![0, 1]) (i : Fin a) (j : Fin b) :
    broadcastInDim ⟨2, ![a, b]⟩ ![0, 1] h4 (broadcastInDim ⟨2, ![1, b]⟩ ![1] h3
      (shapeCast ⟨1, ![b]⟩ (extractStridedSlice ⟨2, ![b, 1]⟩ ![0, 2] W h1) h2)) (ix2 i j) = W (ix2 j 2) := by
  rw [bcast_down, HostMarks.bcast_row]
  refine (shapeCast_apply _ _ (ix1 j) (ix2 j 0) ?_).trans ?_
  · rw [Shape.rowMajor_val_two, Shape.rowMajor_val_one]
    show j.val * 1 + 0 = j.val
    omega
  · refine extractStridedSlice_apply _ _ _ (ix2 j 0) (ix2 j 2) fun c => ?_
    match c with
    | ⟨0, _⟩ => show j.val = 0 + j.val; omega
    | ⟨1, _⟩ => rfl

/-- The count of a column's marks is at most three when the comparison says so. -/
theorem count_le {a b : Nat} (ha : a < 2 ^ 31) (B : IVec ⟨2, ![a, b]⟩ 1) (hw : 1 < 32) (h : (⟨2, ![a, b]⟩ : Shape).ReducesTo [0] ⟨1, ![b]⟩)
    (hu : 0 < (⟨0, ![]⟩ : Shape).numel) (h3 : (⟨0, ![]⟩ : Shape).BroadcastsInDim ⟨1, ![b]⟩ ![]) (hr : (⟨1, ![b]⟩ : Shape).ReducesTo [0] ⟨0, ![]⟩)
    (e : Host.reduce IntOp.andi (cmpi .sle (Host.reduce IntOp.addi (extui 32 B hw) (constantI ⟨0, ![]⟩ 32 0#32) h hu)
      (broadcastInDim ⟨1, ![b]⟩ ![] h3 (constantI ⟨0, ![]⟩ 32 3#32))) (constantI ⟨0, ![]⟩ 1 1#1) hr hu = fun _ => 1#1)
    (j : Fin b) (s : Finset (Fin a)) (hs : ∀ i ∈ s, B (ix2 i j) = 1#1) : s.card ≤ 3 := by
  have : Subsingleton (⟨0, ![]⟩ : Shape).Idx := ⟨fun x y => funext fun z => z.elim0⟩
  have h1 := Host.reduce_andi_all _ _ hr hu (fun z => z.elim0) (congrFun e _) (ix1 j)
  rw [cmpi_apply] at h1
  have hc := StableHlo.Predicate.toNat_reduce_count_rows (by omega) B hw h hu (ix1 j)
  have hle : (Finset.univ.filter (fun p : Fin a => B (StableHlo.Predicate.ij p ((ix1 j : (⟨1, ![b]⟩ : Shape).Idx) 0)) = 1#1)).card ≤ a :=
    (Finset.card_le_univ _).trans (by simp)
  have h2 := (StableHlo.Predicate.sle_iff_toNat (by rw [hc]; omega) (by show (3#32).toNat < 2 ^ 31; decide)).mp h1
  rw [hc] at h2
  refine (Finset.card_le_card fun i hi => ?_).trans h2
  refine Finset.mem_filter.mpr ⟨Finset.mem_univ _, ?_⟩
  refine (congrArg B ?_).trans (hs i hi)
  funext z
  match z with
  | ⟨0, _⟩ => rfl
  | ⟨1, _⟩ => rfl

/-- The precondition's function of the launch's arguments, by its last part. -/
theorem fn_eq (a : FVec Ideal S1008x256 .f32) (b : FVec Ideal S4096x256 .f32) (p : IVec S1008 1) (q : IVec S4096 1) :
    fn (F := Ideal) a b p q = fn_part1 (F := Ideal) (Reference.masked a b p q)
      (Host.topK S4096x3 1 (FloatOps.cmpfTotal (F := Ideal) (φ := .f32) .gt)
        (transpose S4096x1008 [1, 0] (Reference.masked a b p q) transposes_S1008x4096_S4096x1008_1_0) sliceFits_S4096x1008_S4096x3).1 := by
  unfold fn fn_where fn_norm fn_norm_0 Reference.masked Reference.unitRows Reference.unitCols Reference.valid
  rfl

/-- Under the precondition no column of the masked scores has a fourth positive entry as great as its third. -/
theorem noTie (a : FVec Ideal S1008x256 .f32) (b : FVec Ideal S4096x256 .f32) (p : IVec S1008 1) (q : IVec S4096 1)
    (h : fn (F := Ideal) a b p q = fun _ => 1#1) : NoTie (Reference.scores a b p q) := by
  rw [fn_eq] at h
  intro j s hs
  obtain ⟨X, hX, hX'⟩ : ∃ X, Reference.masked a b p q = X ∧ ∀ i j, X (ix2 i j) = Reference.scores a b p q i j :=
    ⟨_, rfl, Reference.masked_apply a b p q⟩
  rw [hX] at h
  obtain ⟨W, hW, hW'⟩ : ∃ W, (Host.topK S4096x3 1 (FloatOps.cmpfTotal (F := Ideal) (φ := .f32) .gt)
        (transpose S4096x1008 [1, 0] X transposes_S1008x4096_S4096x1008_1_0) sliceFits_S4096x1008_S4096x3).1 = W
      ∧ ∀ j, W (ix2 j 2) = Reference.scores a b p q (pick (fun a' => Reference.scores a b p q a' j) 2) j := by
    refine ⟨_, rfl, fun j => ?_⟩
    refine (top_values (a := 4096) (n := 1008) (k := 3) _ sliceFits_S4096x1008_S4096x3 (by norm_num) j 2).trans ?_
    have e : ∀ i, transpose S4096x1008 [1, 0] X transposes_S1008x4096_S4096x1008_1_0 (ix2 j i) = Reference.scores a b p q i j :=
      fun i => (transpose_ix2_apply X _ j i).trans (hX' i j)
    refine (e _).trans ?_
    rw [show (fun b => transpose S4096x1008 [1, 0] X transposes_S1008x4096_S4096x1008_1_0 (ix2 j b)) = fun i => Reference.scores a b p q i j from funext e]
    rfl
  rw [hW] at h
  refine count_le (a := 1008) (b := 4096) (by norm_num) _ natLt_1_32 reducesTo_S1008x4096_S4096_d0 h_S_ bcast_S_S4096 reducesTo_S4096_S_d0 h j s fun i hi => ?_
  rw [andi_apply, andi_iff, cmpf_apply, cmpf_apply, oge_iff, ogt_iff]
  refine ⟨?_, ?_⟩
  · rw [hX']
    exact le_of_eq_of_le ((third_at (a := 1008) (b := 4096) W _ _ _ _ i j).trans (hW' j)) (hs i hi).1
  · rw [hX']
    exact lt_of_eq_of_lt ofBits_zero (hs i hi).2

end Cert.NoColumnTie

end
-- ==== Proof.KernelRows.lean ====
/-
  The kernel's first half, read at an index from the masked scores `S`: the mask of the column top-3, the three picks of every row,
  their scores and flags.
-/
module

public import proofs.«01_k».proof.Proof.Rounds
public import proofs.«01_k».proof.Proof.Mutual
public import proofs.«01_k».proof.Proof.Gen.KernelIdeal.Skeleton

@[expose] public section

noncomputable section

namespace Cert.KernelRows

open Idealize.ShloMosaic Idealize.ShloMosaic.ValueIdx
open Cert.KernelIdeal Cert.KernelIdeal.Gen
open Cert.Ranks Cert.Reads Cert.Rounds Cert.Mutual

/-- The score that marks a removed entry. -/
abbrev gone : Ideal .f32 := Scalar.ofBits (F := Ideal) .f32 0xCF32D05E#32

variable (S : Fin 1024 → Fin 4096 → EReal) (hlow : ∀ i j, gone < S i j)
  (V24 V25 : IVec S1024x4096 32) (h24 : ∀ i j, V24 (ix2 i j) = BitVec.ofNat 32 i.val) (h25 : ∀ i j, V25 (ix2 i j) = BitVec.ofNat 32 j.val)
  (X : FVec Ideal S1024x4096 .f32) (hX : ∀ i j, X (ix2 i j) = S i j)

include hX in
/-- Before the first round nothing is removed. -/
theorem removed0 (i : Fin 1024) (j : Fin 4096) : X (ix2 i j) = removed (S i) gone (0 : Fin 4096).val j := by
  rw [hX]; exact (congrFun (removed_zero (S i) gone) j).symm

include hX in
/-- Before the first round nothing is removed, down the columns. -/
theorem removed0_col (i : Fin 1024) (j : Fin 4096) : X (ix2 i j) = removed (fun k => S k j) gone (0 : Fin 1024).val i := by
  rw [hX]; exact (congrFun (removed_zero (fun k => S k j) gone) i).symm

include hlow h24 hX in
/-- The mask of the column top-3 above zero. -/
theorem okm (m : FVec Ideal S4096 .f32) (hm : ∀ j, m (ix1 j) = S (pick (fun k => S k j) 0) j) (i : Fin 1024) (j : Fin 4096) :
    k0_pay7 V24 X m (ix2 i j) = 1#1 ↔ ok S i j := by
  have h1 := col_removed (a := 1024) (b := 4096) (by omega) S gone hlow 0 X (removed0_col S X hX) V24 h24 m hm 1024#32 rfl shapeCasts_S4096_S1x4096
    shapeCasts_S4096_S1x4096 broadcasts_S1x4096_S1024x4096 broadcasts_S1x4096_S1024x4096 reduces_S1024x4096_S4096 rfl
  have m1 := col_max (a := 1024) (b := 4096) S gone hlow 1 _ h1 reduces_S1024x4096_S4096 (.inl rfl) rfl
  have h2 := col_removed (a := 1024) (b := 4096) (by omega) S gone hlow 1 _ h1 V24 h24 _ m1 1024#32 rfl shapeCasts_S4096_S1x4096
    shapeCasts_S4096_S1x4096 broadcasts_S1x4096_S1024x4096 broadcasts_S1x4096_S1024x4096 reduces_S1024x4096_S4096 rfl
  have m2 := col_max (a := 1024) (b := 4096) S gone hlow 2 _ h2 reduces_S1024x4096_S4096 (.inl rfl) rfl
  obtain ⟨W, hW, hWj⟩ : ∃ W : FVec Ideal S4096 .f32, k0_pay7 V24 X m = andi
      (cmpf .oge X (broadcastTo S1024x4096 (shapeCast S1x4096 W shapeCasts_S4096_S1x4096) broadcasts_S1x4096_S1024x4096))
      (cmpf .ogt X (broadcast S1024x4096 (Scalar.ofBits (F := Ideal) .f32 0x00000000#32)))
      ∧ ∀ j, W (ix1 j) = S (pick (fun k => S k j) 2) j := ⟨_, rfl, m2⟩
  rw [hW, andi_apply, andi_iff, cmpf_apply, cmpf_apply, oge_iff, ogt_iff, bcast_row, hWj, hX, broadcast_apply]
  show _ ∧ Ideal.ofBits .f32 0x00000000#32 < _ ↔ _
  rw [ofBits_zero]
  rfl

/-! ## The three picks of a row -/

include hlow hX in
/-- The first maximum of a row. -/
theorem val1 (i : Fin 1024) : k0_pay8 X (ix2 i 0) = S i (pick (S i) 0) :=
  row_max (a := 1024) (b := 4096) S gone hlow 0 X (removed0 S X hX) reduces_S1024x4096_S1024 (.inl rfl) rfl shapeCasts_S1024_S1024x1 i

include hlow hX h25 in
/-- The first pick of a row. -/
theorem idxA (i : Fin 1024) : k0_pay9 V25 X (ix2 i 0) = BitVec.ofNat 32 (pick (S i) 0).val :=
  row_idx (a := 1024) (b := 4096) (by omega) S gone hlow 0 X (removed0 S X hX) V25 h25 (k0_pay8 X) (val1 S hlow X hX) 4096#32 rfl
    broadcasts_S1024x1_S1024x4096 reduces_S1024x4096_S1024 rfl shapeCasts_S1024_S1024x1 i

include hlow hX h25 in
/-- The mask of the first pick. -/
theorem sel1 (i : Fin 1024) (j : Fin 4096) : k0_pay10 V25 X (ix2 i j) = 1#1 ↔ j = pick (S i) 0 :=
  row_sel (a := 1024) (b := 4096) (by omega) S 0 V25 h25 (k0_pay9 V25 X) (idxA S hlow V25 h25 X hX) broadcasts_S1024x1_S1024x4096 i j

include hlow hX h24 h25 in
/-- The flag of the first pick. -/
theorem flag1 (m : FVec Ideal S4096 .f32) (hm : ∀ j, m (ix1 j) = S (pick (fun k => S k j) 0) j) (i : Fin 1024) :
    k0_pay12 (k0_pay11 V24 V25 X m) (ix2 i 0) = 1#1 ↔ ok S i (pick (S i) 0) :=
  (row_flag (a := 1024) (b := 4096) S 0 (k0_pay10 V25 X) (k0_pay7 V24 X m) (sel1 S hlow V25 h25 X hX) reduces_S1024x4096_S1024 (.inl rfl) rfl
    shapeCasts_S1024_S1024x1 i).trans (okm S hlow V24 h24 X hX m hm i _)

variable (sel : IVec S1024x4096 1) (hsel : ∀ i j, sel (ix2 i j) = 1#1 ↔ j = pick (S i) 0)

include hX hsel in
/-- The scores without the first pick. -/
theorem rem1 (i : Fin 1024) (j : Fin 4096) : k0_pay13 X sel (ix2 i j) = removed (S i) gone (1 : Fin 4096).val j :=
  row_removed (a := 1024) (b := 4096) (by omega) S gone 0 X (removed0 S X hX) sel hsel i j

include hlow hX hsel in
/-- The second maximum of a row. -/
theorem val2 (i : Fin 1024) : k0_pay14 X sel (ix2 i 0) = S i (pick (S i) 1) :=
  row_max (a := 1024) (b := 4096) S gone hlow 1 (k0_pay13 X sel) (rem1 S X hX sel hsel) reduces_S1024x4096_S1024 (.inl rfl) rfl
    shapeCasts_S1024_S1024x1 i

include hlow hX h25 hsel in
/-- The second pick of a row. -/
theorem idxB (i : Fin 1024) : k0_pay15 V25 X sel (ix2 i 0) = BitVec.ofNat 32 (pick (S i) 1).val :=
  row_idx (a := 1024) (b := 4096) (by omega) S gone hlow 1 (k0_pay13 X sel) (rem1 S X hX sel hsel) V25 h25 (k0_pay14 X sel)
    (val2 S hlow X hX sel hsel) 4096#32 rfl broadcasts_S1024x1_S1024x4096 reduces_S1024x4096_S1024 rfl shapeCasts_S1024_S1024x1 i

include hlow hX h25 hsel in
/-- The mask of the second pick. -/
theorem sel2 (i : Fin 1024) (j : Fin 4096) : k0_pay16 V25 X sel (ix2 i j) = 1#1 ↔ j = pick (S i) 1 :=
  row_sel (a := 1024) (b := 4096) (by omega) S 1 V25 h25 (k0_pay15 V25 X sel) (idxB S hlow V25 h25 X hX sel hsel) broadcasts_S1024x1_S1024x4096 i j

include hlow hX h25 hsel in
/-- The flag of the second pick. -/
theorem flag2 (okv : IVec S1024x4096 1) (hok : ∀ i j, okv (ix2 i j) = 1#1 ↔ ok S i j) (i : Fin 1024) :
    k0_pay17 V25 X okv sel (ix2 i 0) = 1#1 ↔ ok S i (pick (S i) 1) :=
  (row_flag (a := 1024) (b := 4096) S 1 (k0_pay16 V25 X sel) okv (sel2 S hlow V25 h25 X hX sel hsel) reduces_S1024x4096_S1024 (.inl rfl) rfl
    shapeCasts_S1024_S1024x1 i).trans (hok i _)

include hlow hX h25 hsel in
/-- The scores without the first two picks. -/
theorem rem2 (i : Fin 1024) (j : Fin 4096) : k0_pay18 V25 X sel (ix2 i j) = removed (S i) gone (2 : Fin 4096).val j :=
  row_removed (a := 1024) (b := 4096) (by omega) S gone 1 (k0_pay13 X sel) (rem1 S X hX sel hsel) (k0_pay16 V25 X sel)
    (sel2 S hlow V25 h25 X hX sel hsel) i j

include hlow hX h25 hsel in
/-- The third maximum of a row. -/
theorem val3 (i : Fin 1024) : k0_pay19 V25 X sel (ix2 i 0) = S i (pick (S i) 2) :=
  row_max (a := 1024) (b := 4096) S gone hlow 2 (k0_pay18 V25 X sel) (rem2 S hlow V25 h25 X hX sel hsel) reduces_S1024x4096_S1024 (.inl rfl) rfl
    shapeCasts_S1024_S1024x1 i

include hlow hX h25 hsel in
/-- The third pick of a row. -/
theorem idxC (i : Fin 1024) : k0_pay20 V25 X sel (ix2 i 0) = BitVec.ofNat 32 (pick (S i) 2).val :=
  row_idx (a := 1024) (b := 4096) (by omega) S gone hlow 2 (k0_pay18 V25 X sel) (rem2 S hlow V25 h25 X hX sel hsel) V25 h25 (k0_pay19 V25 X sel)
    (val3 S hlow V25 h25 X hX sel hsel) 4096#32 rfl broadcasts_S1024x1_S1024x4096 reduces_S1024x4096_S1024 rfl shapeCasts_S1024_S1024x1 i

include hlow hX h25 hsel in
/-- The flag of the third pick. -/
theorem flag3 (okv : IVec S1024x4096 1) (hok : ∀ i j, okv (ix2 i j) = 1#1 ↔ ok S i j) (i : Fin 1024) :
    k0_pay21 V25 X okv sel (ix2 i 0) = 1#1 ↔ ok S i (pick (S i) 2) :=
  (row_flag (a := 1024) (b := 4096) S 2
    (cmpi .eq V25 (broadcastTo S1024x4096 (k0_pay20 V25 X sel) broadcasts_S1024x1_S1024x4096)) okv
    (row_sel (a := 1024) (b := 4096) (by omega) S 2 V25 h25 (k0_pay20 V25 X sel) (idxC S hlow V25 h25 X hX sel hsel) broadcasts_S1024x1_S1024x4096)
    reduces_S1024x4096_S1024 (.inl rfl) rfl shapeCasts_S1024_S1024x1 i).trans (hok i _)

end Cert.KernelRows

end
-- ==== Proof.Candidates.lean ====
/-
  The kernel's candidate columns, read at an index: the values and flat positions of the 3·1024 picks and the 512 fillers, and the
  transposition of such a column by products with the identity.
-/
module

public import proofs.«01_k».proof.Proof.KernelRows
public import Idealize.ShloMosaic.Lib.Pipeline.Value

@[expose] public section

noncomputable section

namespace Cert.Candidates

open Idealize.ShloMosaic Idealize.ShloMosaic.ValueIdx
open Cert.KernelIdeal Cert.KernelIdeal.Gen
open Cert.Ranks Cert.Reads Cert.Rounds Cert.Mutual

/-- Three columns of one height and a fourth of another, stacked. -/
theorem stack4 {α : Type} {a d n : Nat} (x0 x1 x2 : (⟨2, ![a, 1]⟩ : Shape).Idx → α) (x3 : (⟨2, ![d, 1]⟩ : Shape).Idx → α) (g : Fin n → α)
    (hn : n = a + a + a + d) (h0 : ∀ (i : Fin a) (c : Fin n), c.val = i.val → x0 (ix2 i 0) = g c)
    (h1 : ∀ (i : Fin a) (c : Fin n), c.val = a + i.val → x1 (ix2 i 0) = g c)
    (h2 : ∀ (i : Fin a) (c : Fin n), c.val = a + a + i.val → x2 (ix2 i 0) = g c)
    (h3 : ∀ (i : Fin d) (c : Fin n), c.val = a + a + a + i.val → x3 (ix2 i 0) = g c)
    (h : Shape.Concatenates [⟨2, ![a, 1]⟩, ⟨2, ![a, 1]⟩, ⟨2, ![a, 1]⟩, ⟨2, ![d, 1]⟩] ⟨2, ![n, 1]⟩ 0) (c : Fin n) :
    concatenate ⟨2, ![n, 1]⟩ 0 [⟨⟨2, ![a, 1]⟩, x0⟩, ⟨⟨2, ![a, 1]⟩, x1⟩, ⟨⟨2, ![a, 1]⟩, x2⟩, ⟨⟨2, ![d, 1]⟩, x3⟩] h (ix2 c 0) = g c := by
  have hc := c.isLt
  have P := @concatenate_apply_piece α ⟨2, ![n, 1]⟩ 0 [⟨⟨2, ![a, 1]⟩, x0⟩, ⟨⟨2, ![a, 1]⟩, x1⟩, ⟨⟨2, ![a, 1]⟩, x2⟩, ⟨⟨2, ![d, 1]⟩, x3⟩] h (ix2 c 0)
  have off : ∀ {m : Nat} (i : Fin m) (b : Fin 2), b.cast rfl ≠ (0 : Fin 2) →
      ((ix2 i (0 : Fin 1) : (⟨2, ![m, 1]⟩ : Shape).Idx) b).val = ((ix2 c (0 : Fin 1) : (⟨2, ![n, 1]⟩ : Shape).Idx) b).val := fun i b hb => by
    match b, hb with
    | ⟨1, _⟩, _ => rfl
    | ⟨0, _⟩, hb => exact absurd rfl hb
  by_cases c0 : c.val < a
  · refine (P 0 (by simp) ⟨2, ![a, 1]⟩ x0 rfl rfl 0 (by simp) (ix2 ⟨c.val, c0⟩ 0) (off _) ?_).trans (h0 _ c rfl)
    exact Nat.zero_add _
  by_cases c1 : c.val < a + a
  · refine (P 1 (by simp) ⟨2, ![a, 1]⟩ x1 rfl rfl a (by simp) (ix2 ⟨c.val - a, by omega⟩ 0) (off _) ?_).trans
      (h1 _ c (by show c.val = a + (c.val - a); omega))
    show a + (c.val - a) = c.val
    omega
  by_cases c2 : c.val < a + a + a
  · refine (P 2 (by simp) ⟨2, ![a, 1]⟩ x2 rfl rfl (a + a) (by simp) (ix2 ⟨c.val - (a + a), by omega⟩ 0) (off _) ?_).trans
      (h2 _ c (by show c.val = a + a + (c.val - (a + a)); omega))
    show a + a + (c.val - (a + a)) = c.val
    omega
  · refine (P 3 (by simp) ⟨2, ![d, 1]⟩ x3 rfl rfl (a + a + a) (by simp; omega)
      (ix2 ⟨c.val - (a + a + a), by omega⟩ 0) (off _) ?_).trans (h3 _ c (by show c.val = a + a + a + (c.val - (a + a + a)); omega))
    show a + a + a + (c.val - (a + a + a)) = c.val
    omega

/-- Seven rows of one width, side by side. -/
theorem beside7 {α : Type} {a n : Nat} (x : Fin 7 → (⟨2, ![1, a]⟩ : Shape).Idx → α) (g : Fin n → α) (hn : n = 7 * a)
    (hx : ∀ (k : Fin 7) (i : Fin a) (c : Fin n), c.val = k.val * a + i.val → x k (ix2 0 i) = g c)
    (h : Shape.Concatenates [⟨2, ![1, a]⟩, ⟨2, ![1, a]⟩, ⟨2, ![1, a]⟩, ⟨2, ![1, a]⟩, ⟨2, ![1, a]⟩, ⟨2, ![1, a]⟩, ⟨2, ![1, a]⟩] ⟨2, ![1, n]⟩ 1) (c : Fin n) :
    concatenate ⟨2, ![1, n]⟩ 1 [⟨⟨2, ![1, a]⟩, x 0⟩, ⟨⟨2, ![1, a]⟩, x 1⟩, ⟨⟨2, ![1, a]⟩, x 2⟩, ⟨⟨2, ![1, a]⟩, x 3⟩, ⟨⟨2, ![1, a]⟩, x 4⟩,
      ⟨⟨2, ![1, a]⟩, x 5⟩, ⟨⟨2, ![1, a]⟩, x 6⟩] h (ix2 0 c) = g c := by
  have hc := c.isLt
  have ha : 0 < a := by
    rcases Nat.eq_zero_or_pos a with h0 | h0
    · rw [h0] at hn; omega
    · exact h0
  have off : ∀ (i : Fin a) (b : Fin 2), b.cast rfl ≠ (1 : Fin 2) →
      ((ix2 (0 : Fin 1) i : (⟨2, ![1, a]⟩ : Shape).Idx) b).val = ((ix2 (0 : Fin 1) c : (⟨2, ![1, n]⟩ : Shape).Idx) b).val := fun i b hb => by
    match b, hb with
    | ⟨0, _⟩, _ => rfl
    | ⟨1, _⟩, hb => exact absurd rfl hb
  have P := @concatenate_apply_piece α ⟨2, ![1, n]⟩ 1 [⟨⟨2, ![1, a]⟩, x 0⟩, ⟨⟨2, ![1, a]⟩, x 1⟩, ⟨⟨2, ![1, a]⟩, x 2⟩, ⟨⟨2, ![1, a]⟩, x 3⟩,
    ⟨⟨2, ![1, a]⟩, x 4⟩, ⟨⟨2, ![1, a]⟩, x 5⟩, ⟨⟨2, ![1, a]⟩, x 6⟩] h (ix2 0 c)
  have hk : c.val / a < 7 := (Nat.div_lt_iff_lt_mul ha).mpr (by omega)
  have hr : c.val % a < a := Nat.mod_lt _ ha
  have hdm : c.val / a * a + c.val % a = c.val := Nat.div_add_mod' _ _
  have key : ∀ (k : Fin 7), c.val / a = k.val → x k (ix2 0 ⟨c.val % a, hr⟩) = g c := fun k e => hx k ⟨c.val % a, hr⟩ c (by rw [← e]; exact hdm.symm)
  generalize hq : c.val / a = q at hk key hdm
  match q, hk with
  | 0, _ => exact (P 0 (by simp) _ (x 0) rfl rfl (0 * a) (by simp) (ix2 0 ⟨c.val % a, hr⟩) (off _) hdm).trans (key 0 rfl)
  | 1, _ => exact (P 1 (by simp) _ (x 1) rfl rfl (1 * a) (by simp) (ix2 0 ⟨c.val % a, hr⟩) (off _) hdm).trans (key 1 rfl)
  | 2, _ => exact (P 2 (by simp) _ (x 2) rfl rfl (2 * a) (by simp; omega) (ix2 0 ⟨c.val % a, hr⟩) (off _) hdm).trans (key 2 rfl)
  | 3, _ => exact (P 3 (by simp) _ (x 3) rfl rfl (3 * a) (by simp; omega) (ix2 0 ⟨c.val % a, hr⟩) (off _) hdm).trans (key 3 rfl)
  | 4, _ => exact (P 4 (by simp) _ (x 4) rfl rfl (4 * a) (by simp; omega) (ix2 0 ⟨c.val % a, hr⟩) (off _) hdm).trans (key 4 rfl)
  | 5, _ => exact (P 5 (by simp) _ (x 5) rfl rfl (5 * a) (by simp; omega) (ix2 0 ⟨c.val % a, hr⟩) (off _) hdm).trans (key 5 rfl)
  | 6, _ => exact (P 6 (by simp) _ (x 6) rfl rfl (6 * a) (by simp; omega) (ix2 0 ⟨c.val % a, hr⟩) (off _) hdm).trans (key 6 rfl)

/-- A column times the identity is the column as a row. -/
theorem dot_eye (x : FVec Ideal S512x1 .f32) (e : FVec Ideal S512x512 .f32) (he : ∀ i j, e (ix2 i j) = if i = j then 1 else 0) (j : Fin 512) :
    matmul dot_S512x1_S512x512_S1x512_0_0_1_1_n_n (some .fp32) x e (constant S1x512 .f32 0x00000000#32) (ix2 0 j) = x (ix2 j 0) := by
  refine (Ideal.matmul_constant_zero_apply dot_S512x1_S512x512_S1x512_0_0_1_1_n_n (some .fp32) x e (ix2 0 j)).trans ?_
  rw [← Equiv.sum_comp (contrEquiv1 dot_S512x1_S512x512_S1x512_0_0_1_1_n_n 512 rfl rfl).symm]
  refine (Finset.sum_congr rfl (g := fun k : Fin 512 => x (ix2 k 0) * e (ix2 k j)) fun k _ => ?_).trans ?_
  · have hk := contrEquiv1_symm_val dot_S512x1_S512x512_S1x512_0_0_1_1_n_n 512 rfl rfl k
    refine congrArg₂ (· * ·) (congrArg x ?_) (congrArg e ?_)
    · funext a; apply Fin.ext
      match a with
      | ⟨0, _⟩ => exact hk
      | ⟨1, _⟩ => rfl
    · funext a; apply Fin.ext
      match a with
      | ⟨0, _⟩ => exact hk
      | ⟨1, _⟩ => rfl
  · rw [Finset.sum_eq_single j]
    · rw [he, if_pos rfl, mul_one]
    · intro k _ hkj
      rw [he, if_neg hkj, mul_zero]
    · intro hj; exact absurd (Finset.mem_univ _) hj

/-- The transposition of a column of 3584 entries, 512 at a time. -/
theorem transposed (X : FVec Ideal S3584x1 .f32) (e : FVec Ideal S512x512 .f32) (he : ∀ i j, e (ix2 i j) = if i = j then 1 else 0) (c : Fin 3584) :
    concatenate S1x3584 1
      [⟨S1x512, matmul dot_S512x1_S512x512_S1x512_0_0_1_1_n_n (some .fp32) (extractStridedSlice S512x1 ![0, 0] X slices_S3584x1_o0_0_S512x1) e (constant S1x512 .f32 0x00000000#32)⟩,
       ⟨S1x512, matmul dot_S512x1_S512x512_S1x512_0_0_1_1_n_n (some .fp32) (extractStridedSlice S512x1 ![512, 0] X slices_S3584x1_o512_0_S512x1) e (constant S1x512 .f32 0x00000000#32)⟩,
       ⟨S1x512, matmul dot_S512x1_S512x512_S1x512_0_0_1_1_n_n (some .fp32) (extractStridedSlice S512x1 ![1024, 0] X slices_S3584x1_o1024_0_S512x1) e (constant S1x512 .f32 0x00000000#32)⟩,
       ⟨S1x512, matmul dot_S512x1_S512x512_S1x512_0_0_1_1_n_n (some .fp32) (extractStridedSlice S512x1 ![1536, 0] X slices_S3584x1_o1536_0_S512x1) e (constant S1x512 .f32 0x00000000#32)⟩,
       ⟨S1x512, matmul dot_S512x1_S512x512_S1x512_0_0_1_1_n_n (some .fp32) (extractStridedSlice S512x1 ![2048, 0] X slices_S3584x1_o2048_0_S512x1) e (constant S1x512 .f32 0x00000000#32)⟩,
       ⟨S1x512, matmul dot_S512x1_S512x512_S1x512_0_0_1_1_n_n (some .fp32) (extractStridedSlice S512x1 ![2560, 0] X slices_S3584x1_o2560_0_S512x1) e (constant S1x512 .f32 0x00000000#32)⟩,
       ⟨S1x512, matmul dot_S512x1_S512x512_S1x512_0_0_1_1_n_n (some .fp32) (extractStridedSlice S512x1 ![3072, 0] X slices_S3584x1_o3072_0_S512x1) e (constant S1x512 .f32 0x00000000#32)⟩]
      concatenates_S1x512_S1x512_S1x512_S1x512_S1x512_S1x512_S1x512_S1x3584_d1 (ix2 0 c) = X (ix2 c 0) := by
  refine beside7 (a := 512) (n := 3584) ![_, _, _, _, _, _, _] (fun c => X (ix2 c 0)) rfl ?_
    concatenates_S1x512_S1x512_S1x512_S1x512_S1x512_S1x512_S1x512_S1x3584_d1 c
  intro k i c hc
  match k with
  | 0 => exact (dot_eye _ e he i).trans (slice2_axis0_apply 0 X _ i 0 c (by simpa using hc))
  | 1 => exact (dot_eye _ e he i).trans (slice2_axis0_apply 512 X _ i 0 c (by simpa using hc))
  | 2 => exact (dot_eye _ e he i).trans (slice2_axis0_apply 1024 X _ i 0 c (by simpa using hc))
  | 3 => exact (dot_eye _ e he i).trans (slice2_axis0_apply 1536 X _ i 0 c (by simpa using hc))
  | 4 => exact (dot_eye _ e he i).trans (slice2_axis0_apply 2048 X _ i 0 c (by simpa using hc))
  | 5 => exact (dot_eye _ e he i).trans (slice2_axis0_apply 2560 X _ i 0 c (by simpa using hc))
  | 6 => exact (dot_eye _ e he i).trans (slice2_axis0_apply 3072 X _ i 0 c (by simpa using hc))

end Cert.Candidates

end
-- ==== Proof.KernelCands.lean ====
/-
  The kernel's candidates: their values and flat positions as columns, and both columns transposed.
-/
module

public import proofs.«01_k».proof.Proof.Candidates

@[expose] public section

noncomputable section

namespace Cert.KernelCands

open Idealize.ShloMosaic Idealize.ShloMosaic.ValueIdx
open Cert.KernelIdeal Cert.KernelIdeal.Gen
open Cert.Ranks Cert.Reads Cert.Rounds Cert.Mutual Cert.Candidates

/-- The score of a filler. -/
abbrev low : Ideal .f32 := Scalar.ofBits (F := Ideal) .f32 0xCE6E6B28#32

/-- The score of a candidate that stands for nothing. -/
abbrev dead : Ideal .f32 := Scalar.ofBits (F := Ideal) .f32 0xCEEE6B28#32

variable (S : Fin 1024 → Fin 4096 → EReal)

open Classical in
/-- The value of the candidate that is row `i`'s pick `t`. -/
theorem candV_pick (lo de : EReal) (t : Fin 3) (i : Fin 1024) (c : Fin 3584) (hc : c.val = t.val * 1024 + i.val) :
    candV S lo de c = if flag S t i then S i (rowPick S i t) else de := by
  have ht := t.isLt
  have hi := i.isLt
  have h : c.val < 3072 := by omega
  have hr : rnd c h = t := Fin.ext (by show c.val / 1024 = t.val; omega)
  have hw : row c = i := Fin.ext (by show c.val % 1024 = i.val; omega)
  unfold candV live
  simp only [dif_pos h, hr, hw]

/-- The flat position of the candidate that is row `i`'s pick `t`. -/
theorem candF_pick (t : Fin 3) (i : Fin 1024) (c : Fin 3584) (hc : c.val = t.val * 1024 + i.val) :
    candF S c = i.val * 4096 + (rowPick S i t).val := by
  have ht := t.isLt
  have hi := i.isLt
  have h : c.val < 3072 := by omega
  have hr : rnd c h = t := Fin.ext (by show c.val / 1024 = t.val; omega)
  have hw : row c = i := Fin.ext (by show c.val % 1024 = i.val; omega)
  unfold candF
  simp only [dif_pos h, hr, hw]

open Classical in
/-- The value of filler `n`. -/
theorem candV_fill (lo de : EReal) (n : Nat) (c : Fin 3584) (hc : c.val = 3072 + n) : candV S lo de c = if taken S n then de else lo := by
  have h : ¬ c.val < 3072 := by omega
  have hn : c.val - 3072 = n := by omega
  unfold candV live
  simp only [dif_neg h, hn]
  by_cases ht : taken S n
  · rw [if_pos ht, if_neg (not_not.mpr ht)]
  · rw [if_neg ht, if_pos ht]

/-- The flat position of filler `n`. -/
theorem candF_fill (n : Nat) (c : Fin 3584) (hc : c.val = 3072 + n) : candF S c = n := by
  have h : ¬ c.val < 3072 := by omega
  unfold candF
  rw [dif_neg h]
  omega

/-- One of three, after a false alternative. -/
theorem three_of (q : Prop) (P : Fin 3 → Prop) (hq : ¬ q) : ((q ∨ P 0) ∨ P 1) ∨ P 2 ↔ ∃ t, P t := by
  constructor
  · rintro (((h | h) | h) | h)
    · exact absurd h hq
    · exact ⟨0, h⟩
    · exact ⟨1, h⟩
    · exact ⟨2, h⟩
  · rintro ⟨t, h⟩
    match t, h with
    | ⟨0, _⟩, h => exact Or.inl (Or.inl (Or.inr h))
    | ⟨1, _⟩, h => exact Or.inl (Or.inr h)
    | ⟨2, _⟩, h => exact Or.inr h

/-- A column's first entry broadcast down another column. -/
theorem bcast_first {α : Type} {a d : Nat} (v : (⟨2, ![a + 1, 1]⟩ : Shape).Idx → α) (h : (⟨2, ![a + 1, 1]⟩ : Shape).Slices ![0, 0] ⟨2, ![1, 1]⟩)
    (h' : (⟨2, ![1, 1]⟩ : Shape).Broadcasts ⟨2, ![d, 1]⟩) (i : Fin d) :
    broadcastTo ⟨2, ![d, 1]⟩ (extractStridedSlice ⟨2, ![1, 1]⟩ ![0, 0] v h) h' (ix2 i 0) = v (ix2 0 0) := by
  rw [broadcastTo_1b_ab_apply]
  exact slice2_axis0_apply 0 v h 0 0 0 rfl

/-- A small natural's word converts to that natural. -/
theorem sitofp_ofNat (n : Nat) (hn : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt] <;> rw [BitVec.toNat_ofNat, Nat.mod_eq_of_lt (by omega)]
  · simp
  · omega

variable (v72 v92 v112 : FVec Ideal S1024x1 .f32) (v78 v98 v118 : IVec S1024x1 32) (v88 v108 v128 : IVec S1024x1 1)

/-- The candidates' values. -/
theorem values (e0 : ∀ i, v72 (ix2 i 0) = S i (rowPick S i 0)) (e1 : ∀ i, v92 (ix2 i 0) = S i (rowPick S i 1))
    (e2 : ∀ i, v112 (ix2 i 0) = S i (rowPick S i 2))
    (i0 : ∀ i, v78 (ix2 i 0) = BitVec.ofNat 32 (rowPick S i 0).val) (i1 : ∀ i, v98 (ix2 i 0) = BitVec.ofNat 32 (rowPick S i 1).val)
    (i2 : ∀ i, v118 (ix2 i 0) = BitVec.ofNat 32 (rowPick S i 2).val)
    (f0 : ∀ i, v88 (ix2 i 0) = 1#1 ↔ flag S 0 i) (f1 : ∀ i, v108 (ix2 i 0) = 1#1 ↔ flag S 1 i) (f2 : ∀ i, v128 (ix2 i 0) = 1#1 ↔ flag S 2 i)
    (c : Fin 3584) : k0_pay22 v72 v78 v88 v92 v98 v108 v112 v118 v128 (ix2 c 0) = candV S low dead c := by
  classical
  have hsel : ∀ (n : Fin 512) (w : IVec S1024x1 32) (b : IVec S1024x1 1) (t : Fin 3), w (ix2 0 0) = BitVec.ofNat 32 (rowPick S 0 t).val →
      (b (ix2 0 0) = 1#1 ↔ flag S t 0) →
      (andi (cmpi .eq (iota .tc S512x1 32 [0] iota_S512x1_d0_w32) (broadcastTo S512x1 (extractStridedSlice S1x1 ![0, 0] w slices_S1024x1_o0_0_S1x1) broadcasts_S1x1_S512x1))
        (broadcastTo S512x1 (extractStridedSlice S1x1 ![0, 0] b slices_S1024x1_o0_0_S1x1) broadcasts_S1x1_S512x1) (ix2 n 0) = 1#1
        ↔ (rowPick S 0 t).val = n.val ∧ flag S t 0) := by
    intro n w b t hw hb
    rw [andi_apply, andi_iff, cmpi_apply, cmpi_eq_iff]
    refine and_congr ?_ ?_
    · rw [iota_single_apply]
      erw [bcast_first (a := 1023) (d := 512) w]
      rw [hw]
      show BitVec.ofNat 32 n.val = _ ↔ _
      rw [ofNat_inj (by have := n.isLt; omega) (by have := (rowPick S 0 t).isLt; omega)]
      exact eq_comm
    · erw [bcast_first (a := 1023) (d := 512) b]
      exact hb
  refine stack4 (a := 1024) (d := 512) (n := 3584) _ _ _ _ (candV S low dead) rfl ?_ ?_ ?_ ?_ concatenates_S1024x1_S1024x1_S1024x1_S512x1_S3584x1_d0 c
  · intro i c hc
    rw [candV_pick S low dead 0 i c (by simpa using hc), select_apply, sel_iff (f0 i), e0, broadcast_apply]
  · intro i c hc
    rw [candV_pick S low dead 1 i c (by simpa using hc), select_apply, sel_iff (f1 i), e1, broadcast_apply]
  · intro i c hc
    rw [candV_pick S low dead 2 i c (by simpa using hc), select_apply, sel_iff (f2 i), e2, broadcast_apply]
  · intro n c hc
    rw [candV_fill S low dead n.val c (by simpa using hc), select_apply, broadcast_apply, broadcast_apply]
    refine sel_iff ?_ _ _
    rw [ori_apply, ori_iff, ori_apply, ori_iff, ori_apply, ori_iff, hsel n v78 v88 0 (i0 0) (f0 0), hsel n v98 v108 1 (i1 0) (f1 0),
      hsel n v118 v128 2 (i2 0) (f2 0), broadcast_apply]
    unfold taken
    exact three_of _ (fun t => (rowPick S 0 t).val = n.val ∧ flag S t 0) (by decide)

/-- The candidates' flat positions. -/
theorem flats (V24 : IVec S1024x4096 32) (h24 : ∀ i j, V24 (ix2 i j) = BitVec.ofNat 32 i.val)
    (i0 : ∀ i, v78 (ix2 i 0) = BitVec.ofNat 32 (rowPick S i 0).val) (i1 : ∀ i, v98 (ix2 i 0) = BitVec.ofNat 32 (rowPick S i 1).val)
    (i2 : ∀ i, v118 (ix2 i 0) = BitVec.ofNat 32 (rowPick S i 2).val) (c : Fin 3584) :
    k0_pay23 (F := Ideal) V24 v78 v98 v118 (ix2 c 0) = (((candF S c : Nat) : ℝ) : EReal) := by
  have hflat : ∀ (i : Fin 1024) (w : IVec S1024x1 32) (t : Fin 3), w (ix2 i 0) = BitVec.ofNat 32 (rowPick S i t).val →
      (sitofp .f32 (addi (muli (extractStridedSlice S1024x1 ![0, 0] V24 slices_S1024x4096_o0_0_S1024x1) (broadcast S1024x1 4096#32)) w) : FVec Ideal S1024x1 .f32) (ix2 i 0)
        = (((i.val * 4096 + (rowPick S i t).val : Nat) : ℝ) : EReal) := by
    intro i w t hw
    have hi := i.isLt
    have hp := (rowPick S i t).isLt
    rw [sitofp_apply, addi_apply, muli_apply, broadcast_apply, hw]
    erw [slice2_axis1_apply (n0 := 1024) (n1 := 4096) (m := 1) 0 V24 slices_S1024x4096_o0_0_S1024x1 i 0 0 rfl]
    rw [h24, ← sitofp_ofNat _ (by omega : i.val * 4096 + (rowPick S i t).val < 2 ^ 31)]
    refine congrArg (FloatOps.sitofp (F := Ideal) .f32) ?_
    show BitVec.ofNat 32 i.val * BitVec.ofNat 32 4096 + BitVec.ofNat 32 _ = _
    rw [← BitVec.ofNat_mul, ← BitVec.ofNat_add]
  refine stack4 (a := 1024) (d := 512) (n := 3584) _ _ _ _ (fun c => (((candF S c : Nat) : ℝ) : EReal)) rfl ?_ ?_ ?_ ?_
    concatenates_S1024x1_S1024x1_S1024x1_S512x1_S3584x1_d0 c
  · intro i c hc
    rw [candF_pick S 0 i c (by simpa using hc)]
    exact hflat i v78 0 (i0 i)
  · intro i c hc
    rw [candF_pick S 1 i c (by simpa using hc)]
    exact hflat i v98 1 (i1 i)
  · intro i c hc
    rw [candF_pick S 2 i c (by simpa using hc)]
    exact hflat i v118 2 (i2 i)
  · intro n c hc
    rw [candF_fill S n.val c (by simpa using hc), sitofp_apply, iota_single_apply]
    exact sitofp_ofNat n.val (by have := n.isLt; omega)

/-- The identity matrix. -/
theorem eye (i j : Fin 512) : k0_pay25 (F := Ideal) k0_pay24 (ix2 i j) = if i = j then 1 else 0 := by
  have h : k0_pay24 (ix2 i j) = 1#1 ↔ i = j := by
    refine (cmpi_eq_iff _ _).trans ?_
    rw [iota_single_apply, iota_single_apply]
    show BitVec.ofNat 32 i.val = BitVec.ofNat 32 j.val ↔ _
    rw [ofNat_inj (by have := i.isLt; omega) (by have := j.isLt; omega), Fin.ext_iff]
  show FloatOps.sitofp (F := Ideal) .f32 ((k0_pay24 (ix2 i j)).setWidth 32) = _
  by_cases e : i = j
  · rw [h.mpr e, if_pos e]
    exact (sitofp_ofNat 1 (by omega)).trans (by simp)
  · have : k0_pay24 (ix2 i j) = 0#1 := by
      rcases BitVec.eq_zero_or_eq_one (k0_pay24 (ix2 i j)) with h0 | h1
      · exact h0
      · exact absurd (h.mp h1) e
    rw [this, if_neg e]
    exact (sitofp_ofNat 0 (by omega)).trans (by simp)

/-- The values' column transposed. -/
theorem values_row (X : FVec Ideal S3584x1 .f32) (c : Fin 3584) : k0_pay26 X k0_pay24 (ix2 0 c) = X (ix2 c 0) :=
  transposed X (k0_pay25 (F := Ideal) k0_pay24) eye c

/-- The flat positions' column transposed. -/
theorem flats_row (X : FVec Ideal S3584x1 .f32) (c : Fin 3584) : k0_pay27 X k0_pay24 (ix2 0 c) = X (ix2 c 0) :=
  transposed X (k0_pay25 (F := Ideal) k0_pay24) eye c

/-- The ranks' column transposed. -/
theorem ranks_row (X Y : FVec Ideal S3584x1 .f32) (c : Fin 3584) :
    k0_pay36 (k0_pay25 (F := Ideal) k0_pay24) X Y (ix2 0 c) = X (ix2 c 0) + Y (ix2 c 0) :=
  transposed (addf X Y) (k0_pay25 (F := Ideal) k0_pay24) eye c

end Cert.KernelCands

end
-- ==== Proof.KernelRanks.lean ====
/-
  The kernel's ranks of the candidates, and the sums that select the candidate of each rank.
-/
module

public import proofs.«01_k».proof.Proof.KernelCands
public import proofs.«01_k».proof.Proof.Select

@[expose] public section

noncomputable section

namespace Cert.KernelRanks

open Idealize.ShloMosaic Idealize.ShloMosaic.ValueIdx
open Cert.KernelIdeal Cert.KernelIdeal.Gen
open Cert.Ranks Cert.Reads Cert.Rounds Cert.Mutual Cert.Candidates Cert.KernelCands Cert.Select

/-- Candidate `q` of chunk `k`. -/
def at_ (k : Fin 7) (q : Fin 512) : Fin 3584 := ⟨k.val * 512 + q.val, by have := k.isLt; have := q.isLt; omega⟩

/-- A sum over the candidates, chunk by chunk. -/
theorem sum_chunks (g : Fin 3584 → EReal) :
    (∑ q, g (at_ 0 q)) + (∑ q, g (at_ 1 q)) + (∑ q, g (at_ 2 q)) + (∑ q, g (at_ 3 q)) + (∑ q, g (at_ 4 q)) + (∑ q, g (at_ 5 q)) + (∑ q, g (at_ 6 q))
      = ∑ c, g c := by
  have h : ∑ k : Fin 7, ∑ q : Fin 512, g (at_ k q) = ∑ c, g c := by
    rw [← Fintype.sum_prod_type' (fun k q => g (at_ k q))]
    refine Fintype.sum_equiv (finProdFinEquiv (m := 7) (n := 512)) _ g fun x => ?_
    refine congrArg g (Fin.ext ?_)
    show x.1.val * 512 + x.2.val = x.2.val + 512 * x.1.val
    omega
  rw [← h, Fin.sum_univ_seven]

/-- A sum of two vectors read through their parts. -/
theorem add1 {s : Shape} (A B : FVec Ideal s .f32) (i : s.Idx) {a b : EReal} (ha : A i = a) (hb : B i = b) : addf A B i = a + b := by
  rw [addf_apply, ha, hb]

/-- A sum of three vectors read through their parts. -/
theorem add2 {s : Shape} (A B C : FVec Ideal s .f32) (i : s.Idx) {a b c : EReal} (ha : A i = a) (hb : B i = b) (hc : C i = c) :
    addf (addf A B) C i = a + b + c := by
  rw [addf_apply, addf_apply, ha, hb, hc]

/-- A sum of four vectors read through their parts. -/
theorem add3 {s : Shape} (A B C D : FVec Ideal s .f32) (i : s.Idx) {a b c d : EReal} (ha : A i = a) (hb : B i = b) (hc : C i = c) (hd : D i = d) :
    addf (addf (addf A B) C) D i = a + b + c + d := by
  rw [addf_apply, addf_apply, addf_apply, ha, hb, hc, hd]

/-- A chunk of a row. -/
theorem chunk_row (X : FVec Ideal S1x3584 .f32) (k : Fin 7) (o : Nat) (ho : o = k.val * 512) (hs : Shape.Slices S1x3584 ![0, o] S1x512) (q : Fin 512) :
    extractStridedSlice S1x512 ![0, o] X hs (ix2 0 q) = X (ix2 0 (at_ k q)) :=
  slice2_axis1_apply (n0 := 1) (n1 := 3584) (m := 512) o X hs 0 q (at_ k q) (by rw [ho]; rfl)

/-! ## The ranks -/

section Ranks

variable (v : Fin 3584 → EReal) (f : Fin 3584 → Nat) (vc fc : FVec Ideal S3584x1 .f32) (vr fr : FVec Ideal S1x3584 .f32)
  (hvc : ∀ c, vc (ix2 c 0) = v c) (hfc : ∀ c, fc (ix2 c 0) = ((f c : ℝ) : EReal))
  (hvr : ∀ c, vr (ix2 0 c) = v c) (hfr : ∀ c, fr (ix2 0 c) = ((f c : ℝ) : EReal))

include hvc hfc hvr hfr in
/-- The bit "candidate `q` of the chunk comes before candidate `p`". -/
theorem beat_bit (k : Fin 7) (o : Nat) (ho : o = k.val * 512) (hs : Shape.Slices S1x3584 ![0, o] S1x512) (p : Fin 3584) (q : Fin 512) :
    ori (cmpf .ogt (broadcastTo S3584x512 (extractStridedSlice S1x512 ![0, o] vr hs) broadcasts_S1x512_S3584x512) (broadcastTo S3584x512 vc broadcasts_S3584x1_S3584x512))
      (andi (cmpf .oeq (broadcastTo S3584x512 (extractStridedSlice S1x512 ![0, o] vr hs) broadcasts_S1x512_S3584x512) (broadcastTo S3584x512 vc broadcasts_S3584x1_S3584x512))
        (cmpf .olt (broadcastTo S3584x512 (extractStridedSlice S1x512 ![0, o] fr hs) broadcasts_S1x512_S3584x512) (broadcastTo S3584x512 fc broadcasts_S3584x1_S3584x512)))
      (ix2 p q) = 1#1 ↔ CBeats v f (at_ k q) p := by
  have e1 : broadcastTo S3584x512 (extractStridedSlice S1x512 ![0, o] vr hs) broadcasts_S1x512_S3584x512 (ix2 p q) = v (at_ k q) :=
    (broadcastTo_1b_ab_apply (a := 3584) (b := 512) _ _ p q).trans ((chunk_row vr k o ho hs q).trans (hvr _))
  have e2 : broadcastTo S3584x512 vc broadcasts_S3584x1_S3584x512 (ix2 p q) = v p := (bcast_col (a := 3584) (b := 512) _ _ p q).trans (hvc p)
  have e3 : broadcastTo S3584x512 (extractStridedSlice S1x512 ![0, o] fr hs) broadcasts_S1x512_S3584x512 (ix2 p q) = ((f (at_ k q) : ℝ) : EReal) :=
    (broadcastTo_1b_ab_apply (a := 3584) (b := 512) _ _ p q).trans ((chunk_row fr k o ho hs q).trans (hfr _))
  have e4 : broadcastTo S3584x512 fc broadcasts_S3584x1_S3584x512 (ix2 p q) = ((f p : ℝ) : EReal) := (bcast_col (a := 3584) (b := 512) _ _ p q).trans (hfc p)
  rw [ori_apply, ori_iff, andi_apply, andi_iff, cmpf_apply, cmpf_apply, cmpf_apply, ogt_iff, oeq_iff, olt_iff, e1, e2, e3, e4,
    EReal.coe_lt_coe_iff, Nat.cast_lt]
  rfl

open Classical in
/-- The sum of a row of bits. -/
theorem bit_sum (B : IVec S3584x512 1) (P : Fin 3584 → Fin 512 → Prop) (hB : ∀ p q, B (ix2 p q) = 1#1 ↔ P p q) (p : Fin 3584) :
    shapeCast S3584x1 (multiReduction .add [1] S3584 (sitofp .f32 (extui 32 B natLt_1_32) : FVec Ideal S3584x512 .f32) 0x00000000#32
      reduces_S3584x512_S3584 (.inl rfl) rfl) shapeCasts_S3584_S3584x1 (ix2 p 0) = ∑ q, if P p q then (1 : EReal) else 0 := by
  refine (shapeCast_a_a1_apply (a := 3584) _ _ p 0).trans ((add_row (a := 3584) (b := 512) _ _ _ _ _ p).trans (Finset.sum_congr rfl fun q _ => ?_))
  show FloatOps.sitofp (F := Ideal) .f32 ((B (ix2 p q)).setWidth 32) = _
  by_cases h : P p q
  · rw [(hB p q).mpr h, if_pos h]
    exact (sitofp_ofNat 1 (by omega)).trans (by simp)
  · have : B (ix2 p q) = 0#1 := by
      rcases BitVec.eq_zero_or_eq_one (B (ix2 p q)) with h0 | h1
      · exact h0
      · exact absurd ((hB p q).mp h1) h
    rw [this, if_neg h]
    exact (sitofp_ofNat 0 (by omega)).trans (by simp)

open Classical in
/-- How many candidates of a chunk come before candidate `p`. -/
def part (k : Fin 7) (p : Fin 3584) : EReal := ∑ q, if CBeats v f (at_ k q) p then (1 : EReal) else 0

/-- The parts make up the rank. -/
theorem parts (p : Fin 3584) :
    part v f 0 p + part v f 1 p + part v f 2 p + part v f 3 p + part v f 4 p + part v f 5 p + part v f 6 p = ((crank v f p : ℝ) : EReal) := by
  classical
  refine (sum_chunks fun c => if CBeats v f c p then (1 : EReal) else 0).trans ?_
  rw [Finset.sum_boole]
  unfold crank
  rw [show ((Finset.univ.filter fun c => CBeats v f c p).card : EReal) = (((Finset.univ.filter fun c => CBeats v f c p).card : ℝ) : EReal) by simp]

include hvc hfc hvr hfr in
/-- A chunk's part of the ranks. -/
theorem beat_chunk (k : Fin 7) (o : Nat) (ho : o = k.val * 512) (hs : Shape.Slices S1x3584 ![0, o] S1x512) (p : Fin 3584) :
    shapeCast S3584x1 (multiReduction .add [1] S3584 (sitofp .f32 (extui 32
      (ori (cmpf .ogt (broadcastTo S3584x512 (extractStridedSlice S1x512 ![0, o] vr hs) broadcasts_S1x512_S3584x512) (broadcastTo S3584x512 vc broadcasts_S3584x1_S3584x512))
      (andi (cmpf .oeq (broadcastTo S3584x512 (extractStridedSlice S1x512 ![0, o] vr hs) broadcasts_S1x512_S3584x512) (broadcastTo S3584x512 vc broadcasts_S3584x1_S3584x512))
        (cmpf .olt (broadcastTo S3584x512 (extractStridedSlice S1x512 ![0, o] fr hs) broadcasts_S1x512_S3584x512) (broadcastTo S3584x512 fc broadcasts_S3584x1_S3584x512))))
      natLt_1_32) : FVec Ideal S3584x512 .f32) 0x00000000#32
      reduces_S3584x512_S3584 (.inl rfl) rfl) shapeCasts_S3584_S3584x1 (ix2 p 0) = part v f k p :=
  bit_sum _ (fun p q => CBeats v f (at_ k q) p) (beat_bit v f vc fc vr fr hvc hfc hvr hfr k o ho hs) p

include hvc hfc hvr hfr in
/-- Chunks 0 to 2. -/
theorem ranks_012 (m1 m2 : IVec S3584x512 1) (hm : ∀ p q, ori m1 m2 (ix2 p q) = 1#1 ↔ CBeats v f (at_ 0 q) p) (p : Fin 3584) :
    k0_pay32 vc fc vr fr (k0_pay28 (F := Ideal)) m1 m2 (ix2 p 0) = 0 + part v f 0 p + part v f 1 p + part v f 2 p :=
  add3 _ _ _ _ (ix2 p 0) ofBits_zero (bit_sum _ _ hm p) (beat_chunk v f vc fc vr fr hvc hfc hvr hfr 1 512 rfl _ p)
    (beat_chunk v f vc fc vr fr hvc hfc hvr hfr 2 1024 rfl _ p)

include hvc hfc hvr hfr in
/-- Chunks 3 to 5. -/
theorem ranks_345 (acc : FVec Ideal S3584x1 .f32) (p : Fin 3584) :
    k0_pay34 vc fc vr fr acc (k0_pay33 vc fc vr fr) (ix2 p 0) = acc (ix2 p 0) + part v f 3 p + part v f 4 p + part v f 5 p :=
  add3 _ _ _ _ (ix2 p 0) rfl (beat_chunk v f vc fc vr fr hvc hfc hvr hfr 3 1536 rfl _ p) (beat_chunk v f vc fc vr fr hvc hfc hvr hfr 4 2048 rfl _ p)
    (beat_chunk v f vc fc vr fr hvc hfc hvr hfr 5 2560 rfl _ p)

include hvc hfc hvr hfr in
/-- Chunk 6. -/
theorem ranks_6 (p : Fin 3584) : k0_pay35 vc fc vr fr (ix2 p 0) = part v f 6 p :=
  beat_chunk v f vc fc vr fr hvc hfc hvr hfr 6 3072 rfl _ p

end Ranks

/-! ## The selection -/

section Selection

variable (R : Fin 3584 → Nat) (rr : FVec Ideal S1x3584 .f32) (hrr : ∀ c, rr (ix2 0 c) = ((R c : ℝ) : EReal))

/-- The ranks looked for. -/
theorem targets (p : Fin 256) : k0_pay37 (F := Ideal) (ix2 p 0) = ((p.val : ℝ) : EReal) := by
  refine Eq.trans ?_ (sitofp_ofNat p.val (by have := p.isLt; omega))
  show FloatOps.sitofp (F := Ideal) .f32 _ = _
  rw [iota_single_apply]

include hrr in
/-- The bit "candidate `q` of the chunk has rank `p`". -/
theorem hit_bit (k : Fin 7) (o : Nat) (ho : o = k.val * 512) (hs : Shape.Slices S1x3584 ![0, o] S1x512) (p : Fin 256) (q : Fin 512) :
    cmpf .oeq (broadcastTo S256x512 (extractStridedSlice S1x512 ![0, o] rr hs) broadcasts_S1x512_S256x512)
      (broadcastTo S256x512 (k0_pay37 (F := Ideal)) broadcasts_S256x1_S256x512) (ix2 p q) = 1#1 ↔ R (at_ k q) = p.val := by
  have e1 : broadcastTo S256x512 (extractStridedSlice S1x512 ![0, o] rr hs) broadcasts_S1x512_S256x512 (ix2 p q) = ((R (at_ k q) : ℝ) : EReal) :=
    (broadcastTo_1b_ab_apply (a := 256) (b := 512) _ _ p q).trans ((chunk_row rr k o ho hs q).trans (hrr _))
  have e2 : broadcastTo S256x512 (k0_pay37 (F := Ideal)) broadcasts_S256x1_S256x512 (ix2 p q) = ((p.val : ℝ) : EReal) :=
    (bcast_col (a := 256) (b := 512) _ _ p q).trans (targets p)
  rw [cmpf_apply, oeq_iff, e1, e2, EReal.coe_eq_coe_iff, Nat.cast_inj]

variable (x : Fin 3584 → EReal) (xr : FVec Ideal S1x3584 .f32) (hxr : ∀ c, xr (ix2 0 c) = x c)

/-- The sum over a chunk of the entries of rank `p`. -/
def pickPart (k : Fin 7) (p : Fin 256) : EReal := ∑ q, if R (at_ k q) = p.val then x (at_ k q) else 0

include hxr in
/-- A chunk's part of the selected entry. -/
theorem hit_chunk (k : Fin 7) (o : Nat) (ho : o = k.val * 512) (hs : Shape.Slices S1x3584 ![0, o] S1x512)
    (m : IVec S256x512 1) (hm : ∀ p q, m (ix2 p q) = 1#1 ↔ R (at_ k q) = p.val) (p : Fin 256) :
    shapeCast S256x1 (multiReduction .add [1] S256 (select m
        (broadcastTo S256x512 (shapeCast S1x512 (extractStridedSlice S1x512 ![0, o] xr hs) shapeCasts_S1x512_S1x512) broadcasts_S1x512_S256x512)
        (broadcast S256x512 (Scalar.ofBits (F := Ideal) .f32 0x00000000#32))) 0x00000000#32
      reduces_S256x512_S256 (.inl rfl) rfl) shapeCasts_S256_S256x1 (ix2 p 0) = pickPart R x k p := by
  refine (shapeCast_a_a1_apply (a := 256) _ _ p 0).trans ((add_row (a := 256) (b := 512) _ _ _ _ _ p).trans (Finset.sum_congr rfl fun q _ => ?_))
  have e : broadcastTo S256x512 (shapeCast S1x512 (extractStridedSlice S1x512 ![0, o] xr hs) shapeCasts_S1x512_S1x512) broadcasts_S1x512_S256x512 (ix2 p q)
      = x (at_ k q) := by
    rw [shapeCast_self]
    exact (broadcastTo_1b_ab_apply (a := 256) (b := 512) _ _ p q).trans ((chunk_row xr k o ho hs q).trans (hxr _))
  rw [select_apply, sel_iff (hm p q), e, broadcast_apply]
  by_cases h : R (at_ k q) = p.val
  · rw [if_pos h, if_pos h]
  · rw [if_neg h, if_neg h]
    exact ofBits_zero

/-- The parts make up the entry of the one candidate of that rank. -/
theorem pick_parts (p : Fin 256) (c : Fin 3584) (hc : ∀ c', R c' = p.val ↔ c' = c) :
    pickPart R x 0 p + pickPart R x 1 p + pickPart R x 2 p + pickPart R x 3 p + pickPart R x 4 p + pickPart R x 5 p + pickPart R x 6 p = x c := by
  refine (sum_chunks fun c => if R c = p.val then x c else 0).trans ?_
  simp only [hc]
  simp

end Selection

end Cert.KernelRanks

end
-- ==== Proof.KernelOut.lean ====
/-
  The kernel's three results, read at an index from the masked scores `S`: the flat position's two halves and the value of the one
  candidate of each rank.
-/
module

public import proofs.«01_k».proof.Proof.KernelRanks
public import proofs.«01_k».proof.Proof.Gen.KernelIdeal.Frame

@[expose] public section

noncomputable section

namespace Cert.KernelOut

open Idealize.ShloMosaic Idealize.ShloMosaic.ValueIdx
open Cert.KernelIdeal Cert.KernelIdeal.Gen
open Cert.Ranks Cert.Reads Cert.Rounds Cert.Mutual Cert.Candidates Cert.KernelRows Cert.KernelCands Cert.KernelRanks Cert.Select

variable (S : Fin 1024 → Fin 4096 → EReal) (hlow : ∀ i j, gone < S i j)
  (x0 : Vec Ideal S1024x256 .f32) (x1 : Vec Ideal S4096x256 .f32) (x2 : Vec Ideal S1024x1 .f32) (x3 : Vec Ideal S1x4096 .f32)
  (hX : ∀ i j, k0_pay57 x0 x1 x2 x3 (ix2 i j) = S i j)

/-- The row numbers. -/
theorem rows (i : Fin 1024) (j : Fin 4096) : k0_pay55 x0 x1 x2 x3 (ix2 i j) = BitVec.ofNat 32 i.val :=
  iota_single_apply _ _ _ _ _ _

/-- The column numbers. -/
theorem cols (i : Fin 1024) (j : Fin 4096) : k0_pay56 x0 x1 x2 x3 (ix2 i j) = BitVec.ofNat 32 j.val :=
  iota_single_apply _ _ _ _ _ _

include hlow hX in
/-- The column maxima. -/
theorem maxima (j : Fin 4096) : k0_pay58 x0 x1 x2 x3 (ix1 j) = S (pick (fun k => S k j) 0) j :=
  col_max (a := 1024) (b := 4096) S gone hlow 0 (k0_pay57 x0 x1 x2 x3) (removed0_col S _ hX) reduces_S1024x4096_S4096 (.inl rfl) rfl j

include hlow hX in
/-- The mask of the column top-3. -/
theorem mask (i : Fin 1024) (j : Fin 4096) : k0_pay59 x0 x1 x2 x3 (ix2 i j) = 1#1 ↔ ok S i j :=
  okm S hlow _ (rows x0 x1 x2 x3) _ hX _ (maxima S hlow x0 x1 x2 x3 hX) i j

include hlow hX in
/-- The first pick's mask. -/
theorem selA (i : Fin 1024) (j : Fin 4096) : k0_pay61 x0 x1 x2 x3 (ix2 i j) = 1#1 ↔ j = pick (S i) 0 :=
  sel1 S hlow _ (cols x0 x1 x2 x3) _ hX i j

include hlow hX in
/-- The first pick. -/
theorem pickA (i : Fin 1024) : k0_pay60 x0 x1 x2 x3 (ix2 i 0) = BitVec.ofNat 32 (rowPick S i 0).val :=
  idxA S hlow _ (cols x0 x1 x2 x3) _ hX i

include hlow hX in
/-- The second pick. -/
theorem pickB (i : Fin 1024) : k0_pay62 x0 x1 x2 x3 (ix2 i 0) = BitVec.ofNat 32 (rowPick S i 1).val :=
  idxB S hlow _ (cols x0 x1 x2 x3) _ hX _ (selA S hlow x0 x1 x2 x3 hX) i

include hlow hX in
/-- The third pick. -/
theorem pickC (i : Fin 1024) : k0_pay63 x0 x1 x2 x3 (ix2 i 0) = BitVec.ofNat 32 (rowPick S i 2).val :=
  idxC S hlow _ (cols x0 x1 x2 x3) _ hX _ (selA S hlow x0 x1 x2 x3 hX) i

include hlow hX in
/-- The candidates' values. -/
theorem vals (c : Fin 3584) : k0_pay64 x0 x1 x2 x3 (ix2 c 0) = candV S low dead c :=
  values S _ _ _ _ _ _ _ _ _ (val1 S hlow _ hX) (val2 S hlow _ hX _ (selA S hlow x0 x1 x2 x3 hX))
    (val3 S hlow _ (cols x0 x1 x2 x3) _ hX _ (selA S hlow x0 x1 x2 x3 hX))
    (pickA S hlow x0 x1 x2 x3 hX) (pickB S hlow x0 x1 x2 x3 hX) (pickC S hlow x0 x1 x2 x3 hX)
    (flag1 S hlow _ _ (rows x0 x1 x2 x3) (cols x0 x1 x2 x3) _ hX _ (maxima S hlow x0 x1 x2 x3 hX))
    (flag2 S hlow _ (cols x0 x1 x2 x3) _ hX _ (selA S hlow x0 x1 x2 x3 hX) _ (mask S hlow x0 x1 x2 x3 hX))
    (flag3 S hlow _ (cols x0 x1 x2 x3) _ hX _ (selA S hlow x0 x1 x2 x3 hX) _ (mask S hlow x0 x1 x2 x3 hX)) c

include hlow hX in
/-- The candidates' flat positions. -/
theorem poss (c : Fin 3584) : k0_pay65 x0 x1 x2 x3 (ix2 c 0) = (((candF S c : Nat) : ℝ) : EReal) :=
  flats S _ _ _ _ (rows x0 x1 x2 x3) (pickA S hlow x0 x1 x2 x3 hX) (pickB S hlow x0 x1 x2 x3 hX) (pickC S hlow x0 x1 x2 x3 hX) c

include hlow hX in
/-- The candidates' values as a row. -/
theorem vals_row (c : Fin 3584) : k0_pay68 x0 x1 x2 x3 (ix2 0 c) = candV S low dead c :=
  (values_row _ c).trans (vals S hlow x0 x1 x2 x3 hX c)

include hlow hX in
/-- The candidates' flat positions as a row. -/
theorem poss_row (c : Fin 3584) : k0_pay69 x0 x1 x2 x3 (ix2 0 c) = (((candF S c : Nat) : ℝ) : EReal) :=
  (flats_row _ c).trans (poss S hlow x0 x1 x2 x3 hX c)

/-- The rank of a candidate. -/
abbrev R (c : Fin 3584) : Nat := crank (candV S low dead) (candF S) c

include hlow hX in
/-- The ranks as a row. -/
theorem rank_row (c : Fin 3584) : k0_pay72 x0 x1 x2 x3 (ix2 0 c) = ((R S c : ℝ) : EReal) := by
  have h1 := vals S hlow x0 x1 x2 x3 hX
  have h2 := poss S hlow x0 x1 x2 x3 hX
  have h3 := vals_row S hlow x0 x1 x2 x3 hX
  have h4 := poss_row S hlow x0 x1 x2 x3 hX
  have e0 := ranks_012 (candV S low dead) (candF S) _ _ _ _ h1 h2 h3 h4 (k0_pay30 (k0_pay64 x0 x1 x2 x3) (k0_pay66 x0 x1 x2 x3))
    (k0_pay31 (k0_pay64 x0 x1 x2 x3) (k0_pay65 x0 x1 x2 x3) (k0_pay66 x0 x1 x2 x3))
    (beat_bit (candV S low dead) (candF S) _ _ _ _ h1 h2 h3 h4 0 0 rfl slices_S1x3584_o0_0_S1x512) c
  have e1 : k0_pay70 x0 x1 x2 x3 (ix2 c 0) = _ := ranks_345 (candV S low dead) (candF S) _ _ _ _ h1 h2 h3 h4 _ c
  have e2 : k0_pay71 x0 x1 x2 x3 (ix2 c 0) = _ := ranks_6 (candV S low dead) (candF S) _ _ _ _ h1 h2 h3 h4 c
  refine (ranks_row (k0_pay70 x0 x1 x2 x3) (k0_pay71 x0 x1 x2 x3) c).trans ?_
  rw [e1, e2, e0, zero_add]
  exact parts (candV S low dead) (candF S) c

variable (x : Fin 3584 → EReal) (r : Fin 256)

/-- The score result before it is stored. -/
def score : FVec Ideal S256x1 .f32 :=
  k0_pay1 (k0_pay51 (k0_pay68 x0 x1 x2 x3) (k0_pay72 x0 x1 x2 x3) (k0_pay73 x0 x1 x2 x3) (k0_pay46 (k0_pay68 x0 x1 x2 x3) (k0_pay72 x0 x1 x2 x3) (k0_pay73 x0 x1 x2 x3) (k0_pay39 (k0_pay67 x0 x1 x2 x3) (k0_pay68 x0 x1 x2 x3) (k0_pay70 x0 x1 x2 x3) (k0_pay71 x0 x1 x2 x3)) (k0_pay74 x0 x1 x2 x3) (Scalar.ofBits .f32 0x00000000#32) (k0_pay42 (k0_pay68 x0 x1 x2 x3)))) (k0_pay76 x0 x1 x2 x3) (Scalar.ofBits .f32 0x00000000#32) (k0_pay54 (k0_pay68 x0 x1 x2 x3))

include hlow hX in
/-- The score of rank `r` is that candidate's value. -/
theorem score_apply (c : Fin 3584) (hc : ∀ c', R S c' = r.val ↔ c' = c) : score x0 x1 x2 x3 (ix2 r 0) = candV S low dead c := by
  have hr := rank_row S hlow x0 x1 x2 x3 hX
  have hv := vals_row S hlow x0 x1 x2 x3 hX
  have H := hit_bit (R S) _ hr
  have C := hit_chunk (R S) (candV S low dead) _ hv
  have t0 : k0_pay39 (k0_pay67 x0 x1 x2 x3) (k0_pay68 x0 x1 x2 x3) (k0_pay70 x0 x1 x2 x3) (k0_pay71 x0 x1 x2 x3) (ix2 r 0)
      = 0 + pickPart (R S) (candV S low dead) 0 r :=
    add1 _ _ (ix2 r 0) ofBits_zero (C 0 0 rfl slices_S1x3584_o0_0_S1x512 _ (H 0 0 rfl slices_S1x3584_o0_0_S1x512) r)
  have t1 : ∀ A : FVec Ideal S256x1 .f32, k0_pay46 (k0_pay68 x0 x1 x2 x3) (k0_pay72 x0 x1 x2 x3) (k0_pay73 x0 x1 x2 x3) A (k0_pay74 x0 x1 x2 x3)
      (Scalar.ofBits .f32 0x00000000#32) (k0_pay42 (k0_pay68 x0 x1 x2 x3)) (ix2 r 0)
      = A (ix2 r 0) + pickPart (R S) (candV S low dead) 1 r + pickPart (R S) (candV S low dead) 2 r + pickPart (R S) (candV S low dead) 3 r := fun A =>
    add3 _ _ _ _ (ix2 r 0) rfl (C 1 512 rfl slices_S1x3584_o0_512_S1x512 _ (H 1 512 rfl slices_S1x3584_o0_512_S1x512) r)
      (C 2 1024 rfl slices_S1x3584_o0_1024_S1x512 _ (H 2 1024 rfl slices_S1x3584_o0_1024_S1x512) r)
      (C 3 1536 rfl slices_S1x3584_o0_1536_S1x512 _ (H 3 1536 rfl slices_S1x3584_o0_1536_S1x512) r)
  have t2 : ∀ A : FVec Ideal S256x1 .f32, k0_pay51 (k0_pay68 x0 x1 x2 x3) (k0_pay72 x0 x1 x2 x3) (k0_pay73 x0 x1 x2 x3) A (ix2 r 0)
      = A (ix2 r 0) + pickPart (R S) (candV S low dead) 4 r + pickPart (R S) (candV S low dead) 5 r := fun A =>
    add2 _ _ _ (ix2 r 0) rfl (C 4 2048 rfl slices_S1x3584_o0_2048_S1x512 _ (H 4 2048 rfl slices_S1x3584_o0_2048_S1x512) r)
      (C 5 2560 rfl slices_S1x3584_o0_2560_S1x512 _ (H 5 2560 rfl slices_S1x3584_o0_2560_S1x512) r)
  have t3 : ∀ A : FVec Ideal S256x1 .f32, k0_pay1 A (k0_pay76 x0 x1 x2 x3) (Scalar.ofBits .f32 0x00000000#32) (k0_pay54 (k0_pay68 x0 x1 x2 x3)) (ix2 r 0)
      = A (ix2 r 0) + pickPart (R S) (candV S low dead) 6 r := fun A =>
    add1 _ _ (ix2 r 0) rfl (C 6 3072 rfl slices_S1x3584_o0_3072_S1x512 _ (H 6 3072 rfl slices_S1x3584_o0_3072_S1x512) r)
  unfold score
  rw [t3, t2, t1, t0, zero_add]
  exact pick_parts (R S) (candV S low dead) r c hc

include hlow hX in
/-- The flat position of rank `r`, before the last chunk is added and the sum converted. -/
theorem flat_apply (c : Fin 3584) (hc : ∀ c', R S c' = r.val ↔ c' = c) :
    k0_pay2 (k0_pay69 x0 x1 x2 x3) (k0_pay75 x0 x1 x2 x3) (k0_pay76 x0 x1 x2 x3) (ix2 r 0)
      = FloatOps.fptosi (F := Ideal) (φ := .f32) 32 (((candF S c : Nat) : ℝ) : EReal) := by
  have hr := rank_row S hlow x0 x1 x2 x3 hX
  have hv := poss_row S hlow x0 x1 x2 x3 hX
  have H := hit_bit (R S) _ hr
  have C := hit_chunk (R S) (fun c => (((candF S c : Nat) : ℝ) : EReal)) _ hv
  have t0 : k0_pay40 (k0_pay67 x0 x1 x2 x3) (k0_pay69 x0 x1 x2 x3) (k0_pay70 x0 x1 x2 x3) (k0_pay71 x0 x1 x2 x3) (ix2 r 0)
      = 0 + pickPart (R S) (fun c => (((candF S c : Nat) : ℝ) : EReal)) 0 r :=
    add1 _ _ (ix2 r 0) ofBits_zero (C 0 0 rfl slices_S1x3584_o0_0_S1x512 _ (H 0 0 rfl slices_S1x3584_o0_0_S1x512) r)
  have t1 : ∀ A : FVec Ideal S256x1 .f32, k0_pay44 (k0_pay69 x0 x1 x2 x3) (k0_pay72 x0 x1 x2 x3) (k0_pay73 x0 x1 x2 x3) A (k0_pay74 x0 x1 x2 x3) (ix2 r 0)
      = A (ix2 r 0) + pickPart (R S) (fun c => (((candF S c : Nat) : ℝ) : EReal)) 1 r + pickPart (R S) (fun c => (((candF S c : Nat) : ℝ) : EReal)) 2 r := fun A =>
    add2 _ _ _ (ix2 r 0) rfl (C 1 512 rfl slices_S1x3584_o0_512_S1x512 _ (H 1 512 rfl slices_S1x3584_o0_512_S1x512) r)
      (C 2 1024 rfl slices_S1x3584_o0_1024_S1x512 _ (H 2 1024 rfl slices_S1x3584_o0_1024_S1x512) r)
  have t2 : ∀ A : FVec Ideal S256x1 .f32, k0_pay52 (k0_pay69 x0 x1 x2 x3) (k0_pay72 x0 x1 x2 x3) (k0_pay73 x0 x1 x2 x3) A (k0_pay45 (k0_pay72 x0 x1 x2 x3) (k0_pay73 x0 x1 x2 x3))
      (k0_pay47 (k0_pay69 x0 x1 x2 x3)) (k0_pay48 (F := Ideal)) (ix2 r 0)
      = A (ix2 r 0) + pickPart (R S) (fun c => (((candF S c : Nat) : ℝ) : EReal)) 3 r + pickPart (R S) (fun c => (((candF S c : Nat) : ℝ) : EReal)) 4 r
        + pickPart (R S) (fun c => (((candF S c : Nat) : ℝ) : EReal)) 5 r := fun A =>
    add3 _ _ _ _ (ix2 r 0) rfl (C 3 1536 rfl slices_S1x3584_o0_1536_S1x512 _ (H 3 1536 rfl slices_S1x3584_o0_1536_S1x512) r)
      (C 4 2048 rfl slices_S1x3584_o0_2048_S1x512 _ (H 4 2048 rfl slices_S1x3584_o0_2048_S1x512) r)
      (C 5 2560 rfl slices_S1x3584_o0_2560_S1x512 _ (H 5 2560 rfl slices_S1x3584_o0_2560_S1x512) r)
  have t3 := C 6 3072 rfl slices_S1x3584_o0_3072_S1x512 _ (H 6 3072 rfl slices_S1x3584_o0_3072_S1x512) r
  have e : k0_pay75 x0 x1 x2 x3 (ix2 r 0) + pickPart (R S) (fun c => (((candF S c : Nat) : ℝ) : EReal)) 6 r = (((candF S c : Nat) : ℝ) : EReal) := by
    unfold k0_pay75
    rw [t2, t1, t0, zero_add]
    exact pick_parts (R S) (fun c => (((candF S c : Nat) : ℝ) : EReal)) r c hc
  rw [← e]
  exact congrArg (FloatOps.fptosi (F := Ideal) (φ := .f32) 32) (add1 _ _ (ix2 r 0) rfl t3)

/-- A natural below 2³¹ converts back to its word. -/
theorem fptosi_nat (n : Nat) (hn : n < 2 ^ 31) : FloatOps.fptosi (F := Ideal) (φ := .f32) 32 (((n : Nat) : ℝ) : EReal) = BitVec.ofNat 32 n := by
  show BitVec.ofInt 32 (Ideal.toIntClamped _ _ ((n : ℝ) : EReal)) = _
  rw [Ideal.toIntClamped_coe, if_pos (Nat.cast_nonneg n), Int.floor_natCast]
  have h : max (-((2 ^ (32 - 1) : Nat) : Int)) (min (((2 ^ (32 - 1) : Nat) : Int) - 1) (n : Int)) = (n : Int) := by
    rw [min_eq_right (by norm_num; omega), max_eq_right (by norm_num)]
  rw [h, BitVec.ofInt_natCast]

/-- The quotient by 4096 of a natural below 2³¹, as a shift of words. -/
theorem shr_nat (n : Nat) (hn : n < 2 ^ 31) : IntOp.shrsi .vector (BitVec.ofNat 32 n) 12#32 = BitVec.ofNat 32 (n / 4096) := by
  have h32 : n < 2 ^ 32 := by omega
  have hm : (BitVec.ofNat 32 n).msb = false := BitVec.msb_eq_false_iff_two_mul_lt.mpr (by rw [BitVec.toNat_ofNat, Nat.mod_eq_of_lt h32]; omega)
  show (if (12#32 : BitVec 32).toNat < 32 then (BitVec.ofNat 32 n).sshiftRight' 12#32 else _) = _
  rw [if_pos (by decide)]
  apply BitVec.eq_of_toNat_eq
  rw [show (BitVec.ofNat 32 n).sshiftRight' 12#32 = (BitVec.ofNat 32 n).sshiftRight 12 from rfl, BitVec.sshiftRight_eq_of_msb_false hm, BitVec.toNat_ushiftRight, BitVec.toNat_ofNat, BitVec.toNat_ofNat,
    Nat.mod_eq_of_lt h32, Nat.mod_eq_of_lt (by omega), Nat.shiftRight_eq_div_pow]

/-- The remainder by 4096 of a natural below 2³¹, as a mask of words. -/
theorem and_nat (n : Nat) (hn : n < 2 ^ 31) : IntOp.andi (BitVec.ofNat 32 n) 4095#32 = BitVec.ofNat 32 (n % 4096) := by
  have h32 : n < 2 ^ 32 := by omega
  show BitVec.ofNat 32 n &&& 4095#32 = _
  apply BitVec.eq_of_toNat_eq
  rw [BitVec.toNat_and, BitVec.toNat_ofNat, BitVec.toNat_ofNat, BitVec.toNat_ofNat, Nat.mod_eq_of_lt h32, Nat.mod_eq_of_lt (by omega : n % 4096 < 2 ^ 32)]
  exact Nat.and_two_pow_sub_one_eq_mod n 12

include hlow hX in
/-- The row of rank `r`. -/
theorem row_apply (c : Fin 3584) (hc : ∀ c', R S c' = r.val ↔ c' = c) (hb : candF S c < 2 ^ 31) :
    k0_pay3 (k0_pay69 x0 x1 x2 x3) (k0_pay75 x0 x1 x2 x3) (k0_pay76 x0 x1 x2 x3) (ix2 r 0) = BitVec.ofNat 32 (candF S c / 4096) := by
  show IntOp.shrsi .vector (k0_pay2 (k0_pay69 x0 x1 x2 x3) (k0_pay75 x0 x1 x2 x3) (k0_pay76 x0 x1 x2 x3) (ix2 r 0)) 12#32 = _
  rw [flat_apply S hlow x0 x1 x2 x3 hX r c hc, fptosi_nat _ hb, shr_nat _ hb]

include hlow hX in
/-- The column of rank `r`. -/
theorem col_apply (c : Fin 3584) (hc : ∀ c', R S c' = r.val ↔ c' = c) (hb : candF S c < 2 ^ 31) :
    k0_pay4 (k0_pay69 x0 x1 x2 x3) (k0_pay75 x0 x1 x2 x3) (k0_pay76 x0 x1 x2 x3) (ix2 r 0) = BitVec.ofNat 32 (candF S c % 4096) := by
  show IntOp.andi (k0_pay2 (k0_pay69 x0 x1 x2 x3) (k0_pay75 x0 x1 x2 x3) (k0_pay76 x0 x1 x2 x3) (ix2 r 0)) 4095#32 = _
  rw [flat_apply S hlow x0 x1 x2 x3 hX r c hc, fptosi_nat _ hb, and_nat _ hb]

end Cert.KernelOut

end
-- ==== Proof.KernelMasked.lean ====
/-
  The kernel's masked scores, from the arrays its host operations prepare: the padded image rows, the cloud rows and the two masks as
  numbers.
-/
module

public import proofs.«01_k».proof.Proof.Reference
public import proofs.«01_k».proof.Proof.KernelOut
public import proofs.«01_k».proof.Proof.Gen.KernelIdeal.Frame
public import Idealize.ShloMosaic.Lib.MatmulPlain
public import Idealize.ShloMosaic.Lib.Routing.OpsSet
public import Idealize.ShloMosaic.Lib.WordCmp

@[expose] public section

noncomputable section

namespace Cert.KernelMasked

open Idealize.ShloMosaic Idealize.ShloMosaic.ValueIdx Idealize.ShloMosaic.Routing
open Cert.KernelIdeal Cert.KernelIdeal.Gen
open Cert.Ranks Cert.Scores Cert.Rounds Cert.Reads Cert.Mutual Cert.KernelCands

/-- A normalized row at an entry, at any extents. -/
theorem unit_apply {a b : Nat} (A : FVec Ideal ⟨2, ![a, b]⟩ .f32) (hr : (⟨2, ![a, b]⟩ : Shape).Reduces [1] ⟨1, ![a]⟩)
    (hφ : FKind.Formats .f32) (hacc : 0x00000000#32 = FKind.add.neutral .f32 hφ) (hc : (⟨1, ![a]⟩ : Shape).ShapeCasts ⟨2, ![a, 1]⟩)
    (hb : (⟨2, ![a, 1]⟩ : Shape).Broadcasts ⟨2, ![a, b]⟩) (i : Fin a) (k : Fin b) :
    divf A (broadcastTo ⟨2, ![a, b]⟩ (addf (sqrt (shapeCast ⟨2, ![a, 1]⟩ (multiReduction .add [1] ⟨1, ![a]⟩ (mulf A A) 0x00000000#32 hr hφ hacc) hc))
      (broadcast ⟨2, ![a, 1]⟩ (Scalar.ofBits (F := Ideal) .f32 0x322BCC77#32))) hb) (ix2 i k) = unit (fun l => A (ix2 i l)) k := by
  have e : shapeCast ⟨2, ![a, 1]⟩ (multiReduction .add [1] ⟨1, ![a]⟩ (mulf A A) 0x00000000#32 hr hφ hacc) hc (ix2 i 0)
      = ∑ l, A (ix2 i l) * A (ix2 i l) :=
    (shapeCast_a_a1_apply (a := a) _ hc i 0).trans (add_row (a := a) (b := b) (mulf A A) _ hr hφ hacc i)
  refine (congrArg (Ideal.div (A (ix2 i k))) (bcast_col (a := a) (b := b) _ hb i k)).trans ?_
  exact congrArg (Ideal.div (A (ix2 i k))) (congrArg (fun z => Ideal.sqrt z + eps) e)

/-- The score at an entry. -/
theorem dot_apply {a b n : Nat} (A : FVec Ideal ⟨2, ![a, n]⟩ .f32) (B : FVec Ideal ⟨2, ![b, n]⟩ .f32) (i : Fin a) (j : Fin b) :
    matmul (DotDims.transposedRhs a n b) none A B (constant ⟨2, ![a, b]⟩ .f32 0x00000000#32) (ix2 i j) = ∑ k : Fin n, A (ix2 i k) * B (ix2 j k) := by
  refine (Ideal.matmul_transposedRhs_apply none A B _ i j).trans ?_
  show Ideal.ofBits .f32 0x00000000#32 + _ = _
  rw [ofBits_zero, zero_add]

/-- The threshold of the masks. -/
abbrev half : EReal := Scalar.ofBits (F := Ideal) .f32 0x3F000000#32

/-- The comparison of a small row number with the count of rows. -/
theorem row_lt (i : Fin 1024) : IntOp.cmpi .slt (BitVec.ofNat 32 i.val) 1008#32 = 1#1 ↔ i.val < 1008 :=
  WordCmp.cmpi_slt_ofNat_eq_one_iff (w := 32) (by have := i.isLt; omega) (by norm_num)

/-- A masked score at an entry. -/
theorem pay5_apply (X0 : FVec Ideal S1024x256 .f32) (X1 : FVec Ideal S4096x256 .f32) (X2 : FVec Ideal S1024x1 .f32) (X3 : FVec Ideal S1x4096 .f32)
    (i : Fin 1024) (j : Fin 4096) :
    k0_pay5 (F := Ideal) X0 X1 X2 X3 (ix2 i j) = if (half < X2 (ix2 i 0) ∧ half < X3 (ix2 0 j)) ∧ i.val < 1008 then
      score (fun k => X0 (ix2 i k)) (fun k => X1 (ix2 j k)) else if i.val < 1008 then low else dead := by
  unfold k0_pay5
  simp only [shapeCast_self]
  rw [select_apply]
  have h1 : cmpi .slt (iota .tc S1024x4096 32 [0] iota_S1024x4096_d0_w32) (broadcast S1024x4096 1008#32) (ix2 i j) = 1#1 ↔ i.val < 1008 := by
    rw [cmpi_apply, iota_single_apply]
    exact row_lt i
  have h2 : broadcastTo S1024x4096 (cmpf .ogt X2 (broadcast S1024x1 (Scalar.ofBits (F := Ideal) .f32 0x3F000000#32))) broadcasts_S1024x1_S1024x4096 (ix2 i j) = 1#1
      ↔ half < X2 (ix2 i 0) := by
    rw [show broadcastTo S1024x4096 (cmpf .ogt X2 (broadcast S1024x1 (Scalar.ofBits (F := Ideal) .f32 0x3F000000#32))) broadcasts_S1024x1_S1024x4096 (ix2 i j) = _
      from bcast_col (a := 1024) (b := 4096) _ _ i j]
    exact ogt_iff _ _
  have h3 : broadcastTo S1024x4096 (cmpf .ogt X3 (broadcast S1x4096 (Scalar.ofBits (F := Ideal) .f32 0x3F000000#32))) broadcasts_S1x4096_S1024x4096 (ix2 i j) = 1#1
      ↔ half < X3 (ix2 0 j) := by
    rw [show broadcastTo S1024x4096 (cmpf .ogt X3 (broadcast S1x4096 (Scalar.ofBits (F := Ideal) .f32 0x3F000000#32))) broadcasts_S1x4096_S1024x4096 (ix2 i j) = _
      from broadcastTo_1b_ab_apply _ _ i j]
    exact ogt_iff _ _
  refine (sel_iff (P := (half < X2 (ix2 i 0) ∧ half < X3 (ix2 0 j)) ∧ i.val < 1008) ?_ _ _).trans ?_
  · rw [andi_apply, andi_apply, andi_iff, andi_iff, h1, h2, h3]
  · by_cases h : (half < X2 (ix2 i 0) ∧ half < X3 (ix2 0 j)) ∧ i.val < 1008
    · rw [if_pos h, if_pos h]
      refine (dot_apply (a := 1024) (b := 4096) (n := 256) _ _ i j).trans ?_
      exact Finset.sum_congr rfl fun k _ => congrArg₂ (· * ·) (unit_apply (a := 1024) (b := 256) X0 _ _ _ _ _ i k) (unit_apply (a := 4096) (b := 256) X1 _ _ _ _ _ j k)
    · rw [if_neg h, if_neg h, select_apply, sel_iff h1]
      by_cases hi : i.val < 1008
      · rw [if_pos hi, if_pos hi]
        rfl
      · rw [if_neg hi, if_neg hi]
        rfl

/-- A mask's bit as a number is above the threshold exactly when it is set. -/
theorem half_lt_bit (x : BitVec 1) : half < FloatOps.uitofp (F := Ideal) .f32 x ↔ x = 1#1 := by
  have h : x = 0#1 ∨ x = 1#1 := by revert x; decide
  have e0 : half < FloatOps.uitofp (F := Ideal) .f32 (0#1) ↔ False := by
    refine ⟨fun h => ?_, False.elim⟩
    have h' : Ideal.ofBits .f32 0x3F000000#32 < (((0#1).toNat : ℝ) : EReal) := h
    rw [ofBits_half] at h'
    have := EReal.coe_lt_coe_iff.mp h'
    norm_num at this
  have e1 : half < FloatOps.uitofp (F := Ideal) .f32 (1#1) := by
    show Ideal.ofBits .f32 0x3F000000#32 < (((1#1).toNat : ℝ) : EReal)
    rw [ofBits_half]
    exact EReal.coe_lt_coe_iff.mpr (by norm_num)
  rcases h with rfl | rfl
  · exact e0.trans ⟨False.elim, fun h => absurd h (by decide)⟩
  · exact ⟨fun _ => rfl, fun _ => e1⟩

variable (a : FVec Ideal Cert.ReferenceIdeal.S1008x256 .f32) (b : FVec Ideal Cert.ReferenceIdeal.S4096x256 .f32) (p : IVec Cert.ReferenceIdeal.S1008 1)
  (q : IVec Cert.ReferenceIdeal.S4096 1)

/-- The kernel's masked scores are the reference's, padded with dead rows. -/
theorem padded_apply (X0 : FVec Ideal S1024x256 .f32) (X2 : FVec Ideal S1024x1 .f32) (X3 : FVec Ideal S1x4096 .f32)
    (h0 : ∀ (i : Fin 1008) k, X0 (ix2 (i.castLE (by norm_num)) k) = a (ix2 i k))
    (h2 : ∀ i : Fin 1008, X2 (ix2 (i.castLE (by norm_num)) 0) = FloatOps.uitofp (F := Ideal) .f32 (p (ix1 i)))
    (h3 : ∀ j, X3 (ix2 0 j) = FloatOps.uitofp (F := Ideal) .f32 (q (ix1 j))) (i : Fin 1024) (j : Fin 4096) :
    k0_pay5 (F := Ideal) X0 b X2 X3 (ix2 i j) = padded (Reference.scores a b p q) dead i j := by
  rw [pay5_apply]
  unfold padded
  by_cases h : i.val < 1008
  · rw [dif_pos h, if_pos h]
    unfold Reference.scores
    have e2 := h2 ⟨i.val, h⟩
    have e0 := h0 ⟨i.val, h⟩
    rw [show Fin.castLE (show 1008 ≤ 1024 by norm_num) ⟨i.val, h⟩ = i from rfl] at e2 e0
    have hc : ((half < X2 (ix2 i 0) ∧ half < X3 (ix2 0 j)) ∧ i.val < 1008) ↔ (p (ix1 ⟨i.val, h⟩) = 1#1 ∧ q (ix1 j) = 1#1) := by
      rw [e2, h3, half_lt_bit, half_lt_bit]
      exact and_iff_left h
    by_cases hp : p (ix1 ⟨i.val, h⟩) = 1#1 ∧ q (ix1 j) = 1#1
    · rw [if_pos hp, if_pos (hc.mpr hp)]
      rw [show (fun k => X0 (ix2 i k)) = fun k => a (ix2 ⟨i.val, h⟩ k) from funext e0]
    · rw [if_neg hp, if_neg fun h => hp (hc.mp h)]
  · rw [dif_neg h, if_neg fun h' => h h'.2, if_neg h]

/-- Every padded masked score is above the kernel's smallest constant. -/
theorem gone_lt (i : Fin 1024) (j : Fin 4096) : KernelRows.gone < padded (Reference.scores a b p q) dead i j := by
  have hg : KernelRows.gone = ((-3000000000 : ℝ) : EReal) := ofBits_gone
  have hd : dead = ((-2000000000 : ℝ) : EReal) := ofBits_dead
  have hl : Reference.low = ((-1000000000 : ℝ) : EReal) := ofBits_low
  unfold padded
  by_cases h : i.val < 1008
  · rw [dif_pos h]
    unfold Reference.scores
    by_cases hp : p (ix1 ⟨i.val, h⟩) = 1#1 ∧ q (ix1 j) = 1#1
    · rw [if_pos hp]
      refine lt_of_lt_of_le ?_ (score_bound _ _)
      rw [hg]
      exact EReal.coe_lt_coe_iff.mpr (by norm_num)
    · rw [if_neg hp, hg, hl]
      exact EReal.coe_lt_coe_iff.mpr (by norm_num)
  · rw [dif_neg h, hg, hd]
    exact EReal.coe_lt_coe_iff.mpr (by norm_num)

/-! ## The host operations before the kernel -/

/-- A scatter at index zero starts at zero. -/
theorem start_zero {s si u : Shape} (d : ScatterDims s si u) (k : u.Idx) (idx : IVec si 32) (h : ∀ x, idx x = 0#32) (x : Fin s.rank) :
    d.start k idx x = 0 := by
  unfold ScatterDims.start
  split
  · rw [h]; rfl
  · rfl

/-- The image rows padded with zero rows, at a row of the image. -/
theorem pad_rows (z : FVec Ideal S1024x256 .f32) (idx : IVec S1 32) (h : ∀ x, idx x = 0#32) (u : FVec Ideal S1008x256 .f32) (i : Fin 1008) (k : Fin 256) :
    Host.scatter scatter_S1024x256_S1_S1008x256_01_n_0_0 (fun _ b => b) z idx u (ix2 (i.castLE (by norm_num)) k) = u (ix2 i k) := by
  have L : ∀ (p : Fin 1008) (t : Fin 256), scatter_S1024x256_S1_S1008x256_01_n_0_0.resultIdx? (ix2 p t) idx = some (ix2 (i.castLE (by norm_num)) k) ↔ p = i ∧ t = k := fun p t => by
    refine (resultIdx?_ix2 scatter_S1024x256_S1_S1008x256_01_n_0_0 (ix2 p t) idx _ _).trans ?_
    rw [start_zero _ _ _ h, start_zero _ _ _ h, show scatter_S1024x256_S1_S1008x256_01_n_0_0.window (ix2 p t) 0 = p.val from rfl,
      show scatter_S1024x256_S1_S1008x256_01_n_0_0.window (ix2 p t) 1 = t.val from rfl, zero_add, zero_add, Int.ofNat_inj, Int.ofNat_inj, Fin.ext_iff, Fin.ext_iff]
    rfl
  refine scatter_set_hit _ z idx u _ (u (ix2 i k)) (fun x hx => ?_) (ix2 i k) ((L i k).2 ⟨rfl, rfl⟩)
  obtain ⟨p, t, rfl⟩ : ∃ p t, x = ix2 p t := ⟨x 0, x 1, eq_ix2 x⟩
  obtain ⟨rfl, rfl⟩ := (L p t).1 hx
  rfl

/-- A column padded with zeros, at an entry of the column. -/
theorem pad_col (z : FVec Ideal S1024x1 .f32) (idx : IVec S2 32) (h : ∀ x, idx x = 0#32) (u : FVec Ideal S1008 .f32) (i : Fin 1008) :
    Host.scatter scatter_S1024x1_S2_S1008_0_1_01_0 (fun _ b => b) z idx u (ix2 (i.castLE (by norm_num)) 0) = u (ix1 i) := by
  have L : ∀ (p : Fin 1008), scatter_S1024x1_S2_S1008_0_1_01_0.resultIdx? (ix1 p) idx = some (ix2 (i.castLE (by norm_num)) 0) ↔ p = i := fun p => by
    refine (resultIdx?_ix2 scatter_S1024x1_S2_S1008_0_1_01_0 (ix1 p) idx _ _).trans ?_
    rw [start_zero _ _ _ h, start_zero _ _ _ h, show scatter_S1024x1_S2_S1008_0_1_01_0.window (ix1 p) 0 = p.val from rfl,
      show scatter_S1024x1_S2_S1008_0_1_01_0.window (ix1 p) 1 = 0 from rfl, zero_add, zero_add, Int.ofNat_inj, Fin.ext_iff]
    exact and_iff_left rfl
  refine scatter_set_hit _ z idx u _ (u (ix1 i)) (fun x hx => ?_) (ix1 i) ((L i).2 rfl)
  obtain ⟨p, rfl⟩ : ∃ p, x = ix1 p := ⟨x 0, eq_ix1 x⟩
  obtain rfl := (L p).1 hx
  rfl

/-- Two zero words laid end to end are zero words. -/
theorem concat_zero (x : S2.Idx) (u v : IVec S1 32) (hu : ∀ i, u i = 0#32) (hv : ∀ i, v i = 0#32) :
    concatenate S2 0 [⟨S1, u⟩, ⟨S1, v⟩] concatenates_S1_S1_S2_d0 x = 0#32 := by
  obtain rfl : u = fun _ => 0#32 := funext hu
  obtain rfl : v = fun _ => 0#32 := funext hv
  have h : ∀ r ∈ ([⟨S1, fun _ => 0#32⟩, ⟨S1, fun _ => 0#32⟩] : List ((s : Shape) × (s.Idx → BitVec 32))), ∀ i, r.2 i = 0#32 := by
    intro r hr i
    simp only [List.mem_cons, List.not_mem_nil, or_false, or_self] at hr
    subst hr
    rfl
  exact h _ (List.getElem_mem _) _

end Cert.KernelMasked

end
-- ==== Proof.KernelBlocks.lean ====
module

public import proofs.«01_k».proof.Proof.KernelMasked
public import Idealize.ShloMosaic.Lib.Pipeline.ValueKit
public import Idealize.ShloMosaic.Lib.Claim
public import Idealize.ShloMosaic.Lib.StableHlo.RunRead

/-!
What the kernel's one grid point reads: each input window's block is its whole array, the arrays are the arguments as the
host lines before the call pad and cast them, and so the kernel's masked scores are the problem's masked scores with
sixteen rows of `dead` below them.
-/

@[expose] public section

noncomputable section

namespace Cert.KernelBlocks

open Idealize.ShloMosaic Idealize.ShloMosaic.ValueIdx Idealize.ShloMosaic.TcCoe Idealize.SL.Sem Idealize.ShloMosaic.StableHlo
open Cert.KernelIdeal Cert.KernelIdeal.Gen Cert.KernelCands Cert.Mutual

/-- A load of the whole of a block starts at the origin. -/
theorem hz : (![0, 0] : Fin 2 → Nat) = fun _ => 0 := funext fun a => by fin_cases a <;> rfl

variable (m : (ℓ : Loc nD τ sig) → Buf (Elt Ideal) ℓ) (c : Dev nD)

/-- The call finds the descriptors of the first image padded with zero rows. -/
theorem entry_rows : V m c main_v2 = Host.scatter scatter_S1024x256_S1_S1008x256_01_n_0_0 (fun _ b => b)
    (broadcastInDim S1024x256 ![] bcast_S_S1024x256 (constant (F := Ideal) S_ .f32 0x00000000#32))
    (broadcastInDim S1 ![] bcast_S_S1 (constantI S_ 32 0#32)) (m ((c : Thread nD τ).loc main_arg0)) := by
  unfold V V0
  rw [List.flatten_singleton]
  unfold hostOps0
  after_reads_simp

/-- Two concatenations of equal pieces are equal. -/
theorem concat_congr {u u' v v' : IVec S1 32} (hu : u = u') (hv : v = v') :
    concatenate S2 0 [⟨S1, u⟩, ⟨S1, v⟩] concatenates_S1_S1_S2_d0 = concatenate S2 0 [⟨S1, u'⟩, ⟨S1, v'⟩] concatenates_S1_S1_S2_d0 := by
  rw [hu, hv]

/-- The call finds the row marks as floats, padded with zeros. -/
theorem entry_rowMarks : V m c main_v8 = Host.scatter scatter_S1024x1_S2_S1008_0_1_01_0 (fun _ b => b)
    (broadcastInDim S1024x1 ![] bcast_S_S1024x1 (constant (F := Ideal) S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    (uitofp (F := Ideal) .f32 (m ((c : Thread nD τ).loc main_arg2))) := by
  unfold V V0
  rw [List.flatten_singleton]
  unfold hostOps0
  after_reads_simp
  refine congrArg (fun z => Host.scatter scatter_S1024x1_S2_S1008_0_1_01_0 (fun _ b => b)
    (broadcastInDim S1024x1 ![] bcast_S_S1024x1 (constant (F := Ideal) S_ .f32 0x00000000#32)) z
    (uitofp (F := Ideal) .f32 (m ((c : Thread nD τ).loc main_arg2)))) (concat_congr ?_ ?_) <;> after_reads_simp

/-- The call finds the column marks as floats, in one row. -/
theorem entry_colMarks : V m c main_v10 = shapeCast S1x4096 (uitofp (F := Ideal) .f32 (m ((c : Thread nD τ).loc main_arg3)))
    shapeCasts_S4096_S1x4096 := by
  unfold V V0
  rw [List.flatten_singleton]
  unfold hostOps0
  after_reads_simp
  rfl

/-- Each window's block index at the one grid point is zero on every axis. -/
theorem idx_zero : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- An index of the first window's block is the same index of its array. -/
theorem emb0 (t : Fin cfg0.N) (j : S1024x256.Idx) : ((cfg0.win 0).blk t).view.emb j = j := by
  obtain ⟨e0, e1⟩ := (idx_zero t).1
  funext a; apply Fin.ext
  match a with
  | ⟨0, _⟩ => show win0_0.index t (0 : Fin 2) * 1024 + 1 * (j 0).val = (j 0).val; omega
  | ⟨1, _⟩ => show win0_0.index t (1 : Fin 2) * 256 + 1 * (j 1).val = (j 1).val; omega

/-- An index of the second window's block is the same index of its array. -/
theorem emb1 (t : Fin cfg0.N) (j : S4096x256.Idx) : ((cfg0.win 1).blk t).view.emb j = j := by
  obtain ⟨e0, e1⟩ := (idx_zero t).2.1
  funext a; apply Fin.ext
  match a with
  | ⟨0, _⟩ => show win0_1.index t (0 : Fin 2) * 4096 + 1 * (j 0).val = (j 0).val; omega
  | ⟨1, _⟩ => show win0_1.index t (1 : Fin 2) * 256 + 1 * (j 1).val = (j 1).val; omega

/-- An index of the third window's block is the same index of its array. -/
theorem emb2 (t : Fin cfg0.N) (j : S1024x1.Idx) : ((cfg0.win 2).blk t).view.emb j = j := by
  obtain ⟨e0, e1⟩ := (idx_zero t).2.2.1
  funext a; apply Fin.ext
  match a with
  | ⟨0, _⟩ => show win0_2.index t (0 : Fin 2) * 1024 + 1 * (j 0).val = (j 0).val; omega
  | ⟨1, _⟩ => show win0_2.index t (1 : Fin 2) * 1 + 1 * (j 1).val = (j 1).val; omega

/-- An index of the fourth window's block is the same index of its array. -/
theorem emb3 (t : Fin cfg0.N) (j : S1x4096.Idx) : ((cfg0.win 3).blk t).view.emb j = j := by
  obtain ⟨e0, e1⟩ := (idx_zero t).2.2.2
  funext a; apply Fin.ext
  match a with
  | ⟨0, _⟩ => show win0_3.index t (0 : Fin 2) * 1 + 1 * (j 0).val = (j 0).val; omega
  | ⟨1, _⟩ => show win0_3.index t (1 : Fin 2) * 4096 + 1 * (j 1).val = (j 1).val; omega

/-- So the first window's block is its array. -/
theorem iblk0_eq (t : Fin cfg0.N) : iblk m c 0 t = V m c main_v2 := by
  funext j; show V m c main_v2 (((cfg0.win 0).blk t).view.emb j) = V m c main_v2 j; rw [emb0]

/-- So the second window's block is its array. -/
theorem iblk1_eq (t : Fin cfg0.N) : iblk m c 1 t = V m c main_arg1 := by
  funext j; show V m c main_arg1 (((cfg0.win 1).blk t).view.emb j) = V m c main_arg1 j; rw [emb1]

/-- So the third window's block is its array. -/
theorem iblk2_eq (t : Fin cfg0.N) : iblk m c 2 t = V m c main_v8 := by
  funext j; show V m c main_v8 (((cfg0.win 2).blk t).view.emb j) = V m c main_v8 j; rw [emb2]

/-- So the fourth window's block is its array. -/
theorem iblk3_eq (t : Fin cfg0.N) : iblk m c 3 t = V m c main_v10 := by
  funext j; show V m c main_v10 (((cfg0.win 3).blk t).view.emb j) = V m c main_v10 j; rw [emb3]

/-- The problem's masked scores of the arguments in memory. -/
abbrev scoresOf : Fin 1008 → Fin 4096 → EReal :=
  Reference.scores (m ((c : Thread nD τ).loc main_arg0)) (m ((c : Thread nD τ).loc main_arg1))
    (m ((c : Thread nD τ).loc main_arg2)) (m ((c : Thread nD τ).loc main_arg3))

/-- The kernel's masked scores at the one grid point are the problem's, with rows of `dead` below them. -/
theorem padded_scores (t : Fin cfg0.N) (i : Fin 1024) (j : Fin 4096) :
    k0_pay57 (F := Ideal) (iblk m c 0 t) (iblk m c 1 t) (iblk m c 2 t) (iblk m c 3 t) (ValueIdx.ix2 i j) = padded (scoresOf m c) dead i j := by
  rw [iblk0_eq, iblk1_eq, iblk2_eq, iblk3_eq, V_main_arg1]
  show k0_pay5 (F := Ideal) (View.ld (V m c main_v2) r0_0) (View.ld (m ((c : Thread nD τ).loc main_arg1)) r0_1)
    (View.ld (V m c main_v8) r0_2) (View.ld (V m c main_v10) r0_3) (ValueIdx.ix2 i j) = _
  have e0 : View.ld (V m c main_v2) r0_0 = V m c main_v2 := View.ld_unit_zero hz _ _
  have e1 : View.ld (m ((c : Thread nD τ).loc main_arg1)) r0_1 = m ((c : Thread nD τ).loc main_arg1) := View.ld_unit_zero hz _ _
  have e2 : View.ld (V m c main_v8) r0_2 = V m c main_v8 := View.ld_unit_zero hz _ _
  have e3 : View.ld (V m c main_v10) r0_3 = V m c main_v10 := View.ld_unit_zero hz _ _
  rw [e0, e1, e2, e3]
  refine KernelMasked.padded_apply _ _ _ _ _ _ _ (fun i k => ?_) (fun i => ?_) (fun j => ?_) i j
  · rw [entry_rows]
    exact KernelMasked.pad_rows _ _ (fun _ => rfl) _ i k
  · rw [entry_rowMarks]
    exact KernelMasked.pad_col _ _ (fun x => KernelMasked.concat_zero x _ _ (fun _ => rfl) (fun _ => rfl)) _ i
  · rw [entry_colMarks]
    exact shapeCast_a_1a_apply (a := 4096) _ _ 0 j

end Cert.KernelBlocks
end
-- ==== Proof.KernelTail.lean ====
module

public import proofs.«01_k».proof.Proof.Gen.KernelIdeal.Frame
public import Idealize.ShloMosaic.Lib.Pipeline.ValueKit
public import Idealize.ShloMosaic.Lib.StableHlo.RunRead

/-!
The kernel program's run with its three results read through the reshapes after the call.
-/

@[expose] public section

noncomputable section

namespace Cert.KernelTail

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The row numbers' result is the reshaped array of the call's first result. -/
theorem tail_rows (c : Dev nD) : Pipeline.afterTail₀ cfgs (dats m) 0 (V0 m) [hostOps1] c main_v12
    = shapeCast S256 ((dats m 0 c).arrAt 4 cfg0.N : IVec S256x1 32) shapeCasts_S256x1_S256 := by
  unfold Pipeline.afterTail₀
  rw [List.flatten_singleton]
  unfold hostOps1
  after_reads_simp
  exact congrArg (fun x : IVec S256x1 32 => shapeCast S256 x shapeCasts_S256x1_S256)
    (Pipeline.withArrays_arr spec0 (by decide) c (V0 m c) _ 4)

/-- The column numbers' result is the reshaped array of the call's second result. -/
theorem tail_cols (c : Dev nD) : Pipeline.afterTail₀ cfgs (dats m) 0 (V0 m) [hostOps1] c main_v13
    = shapeCast S256 ((dats m 0 c).arrAt 5 cfg0.N : IVec S256x1 32) shapeCasts_S256x1_S256 := by
  unfold Pipeline.afterTail₀
  rw [List.flatten_singleton]
  unfold hostOps1
  after_reads_simp
  exact congrArg (fun x : IVec S256x1 32 => shapeCast S256 x shapeCasts_S256x1_S256)
    (Pipeline.withArrays_arr spec0 (by decide) c (V0 m c) _ 5)

/-- The scores' result is the reshaped array of the call's third result. -/
theorem tail_scores (c : Dev nD) : Pipeline.afterTail₀ cfgs (dats m) 0 (V0 m) [hostOps1] c main_v14
    = shapeCast S256 ((dats m 0 c).arrAt 6 cfg0.N : FVec Ideal S256x1 .f32) shapeCasts_S256x1_S256 := by
  unfold Pipeline.afterTail₀
  rw [List.flatten_singleton]
  unfold hostOps1
  after_reads_simp
  exact congrArg (fun x : FVec Ideal S256x1 .f32 => shapeCast S256 x shapeCasts_S256x1_S256)
    (Pipeline.withArrays_arr spec0 (by decide) c (V0 m c) _ 6)

/-- The kernel program's run: the three results in terms of the call's result arrays, and the arguments as they were. -/
theorem run : θ_run defs (onTc (τ := τ) (main (F := Ideal))) ⟨m, fun _ => 0, ρ⟩ (fun r => ∀ c : Dev nD,
      r.2.mem ((c.tc : Thread nD τ).loc main_v12)
        = shapeCast S256 ((dats m 0 c).arrAt 4 cfg0.N : IVec S256x1 32) shapeCasts_S256x1_S256
      ∧ r.2.mem ((c.tc : Thread nD τ).loc main_v13)
        = shapeCast S256 ((dats m 0 c).arrAt 5 cfg0.N : IVec S256x1 32) shapeCasts_S256x1_S256
      ∧ r.2.mem ((c.tc : Thread nD τ).loc main_v14)
        = shapeCast S256 ((dats m 0 c).arrAt 6 cfg0.N : FVec Ideal S256x1 .f32) shapeCasts_S256x1_S256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v12 (Pipeline.mem_restRefs_of main_v12 (by decide) (by decide))).trans (tail_rows m c),
      ((h c).2 main_v13 (Pipeline.mem_restRefs_of main_v13 (by decide) (by decide))).trans (tail_cols m c),
      ((h c).2 main_v14 (Pipeline.mem_restRefs_of main_v14 (by decide) (by decide))).trans (tail_scores m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelTail
end
-- ==== Proof.KernelRun.lean ====
module

public import proofs.«01_k».proof.Proof.KernelBlocks
public import proofs.«01_k».proof.Proof.KernelTail

/-!
What the kernel program leaves in its three results: at every rank, the row, the column and the score of the problem's pick
of that rank among the flattened mutual scores.
-/

@[expose] public section

noncomputable section

namespace Cert.KernelRun

open Idealize.ShloMosaic Idealize.ShloMosaic.TcCoe Idealize.SL.Sem
open Cert.KernelIdeal Cert.KernelIdeal.Gen Cert.Ranks Cert.KernelCands Cert.Mutual Cert.KernelBlocks

/-- A one-column array cast to a vector reads, at `i`, the column's entry `i`. -/
theorem column_apply {α : Type} {a : Nat} (x : (⟨2, ![a, 1]⟩ : Shape).Idx → α) (h : (⟨2, ![a, 1]⟩ : Shape).ShapeCasts ⟨1, ![a]⟩)
    (i : Fin a) : shapeCast ⟨1, ![a]⟩ x h (ValueIdx.ix1 i) = x (ValueIdx.ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ) (c : Dev nD)

/-- The output windows' block indices at the one grid point are zero on every axis. -/
theorem idx_zero_out : ∀ t : Fin cfg0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- An index of the first output window's block is the same index of its array. -/
theorem emb4 (t : Fin cfg0.N) (j : S256x1.Idx) : ((cfg0.win 4).blk t).view.emb j = j := by
  obtain ⟨e0, e1⟩ := (idx_zero_out t).1
  funext a; apply Fin.ext
  match a with
  | ⟨0, _⟩ => show win0_4.index t (0 : Fin 2) * 256 + 1 * (j 0).val = (j 0).val; omega
  | ⟨1, _⟩ => show win0_4.index t (1 : Fin 2) * 1 + 1 * (j 1).val = (j 1).val; omega

/-- An index of the second output window's block is the same index of its array. -/
theorem emb5 (t : Fin cfg0.N) (j : S256x1.Idx) : ((cfg0.win 5).blk t).view.emb j = j := by
  obtain ⟨e0, e1⟩ := (idx_zero_out t).2.1
  funext a; apply Fin.ext
  match a with
  | ⟨0, _⟩ => show win0_5.index t (0 : Fin 2) * 256 + 1 * (j 0).val = (j 0).val; omega
  | ⟨1, _⟩ => show win0_5.index t (1 : Fin 2) * 1 + 1 * (j 1).val = (j 1).val; omega

/-- An index of the third output window's block is the same index of its array. -/
theorem emb6 (t : Fin cfg0.N) (j : S256x1.Idx) : ((cfg0.win 6).blk t).view.emb j = j := by
  obtain ⟨e0, e1⟩ := (idx_zero_out t).2.2
  funext a; apply Fin.ext
  match a with
  | ⟨0, _⟩ => show win0_6.index t (0 : Fin 2) * 256 + 1 * (j 0).val = (j 0).val; omega
  | ⟨1, _⟩ => show win0_6.index t (1 : Fin 2) * 1 + 1 * (j 1).val = (j 1).val; omega

/-- The call's first result array is what the one grid point leaves. -/
theorem arr4 : (dats m 0 c).arrAt 4 cfg0.N = out0_4 (iblk m c 0 t0_0) (iblk m c 1 t0_0) (iblk m c 2 t0_0) (iblk m c 3 t0_0) := by
  refine (dats m 0 c).arrAt_eq_of_covers 4 _ (by decide +kernel) fun t hf y => ?_
  blk_simp
  rw [after0_4, fin_N0 t]
  exact congrArg (out0_4 (iblk m c 0 t0_0) (iblk m c 1 t0_0) (iblk m c 2 t0_0) (iblk m c 3 t0_0)) (emb4 t0_0 y).symm

/-- The call's second result array is what the one grid point leaves. -/
theorem arr5 : (dats m 0 c).arrAt 5 cfg0.N = out0_5 (iblk m c 0 t0_0) (iblk m c 1 t0_0) (iblk m c 2 t0_0) (iblk m c 3 t0_0) := by
  refine (dats m 0 c).arrAt_eq_of_covers 5 _ (by decide +kernel) fun t hf y => ?_
  blk_simp
  rw [after0_5, fin_N0 t]
  exact congrArg (out0_5 (iblk m c 0 t0_0) (iblk m c 1 t0_0) (iblk m c 2 t0_0) (iblk m c 3 t0_0)) (emb5 t0_0 y).symm

/-- The call's third result array is what the one grid point leaves. -/
theorem arr6 : (dats m 0 c).arrAt 6 cfg0.N = out0_6 (iblk m c 0 t0_0) (iblk m c 1 t0_0) (iblk m c 2 t0_0) (iblk m c 3 t0_0) := by
  refine (dats m 0 c).arrAt_eq_of_covers 6 _ (by decide +kernel) fun t hf y => ?_
  blk_simp
  rw [after0_6, fin_N0 t]
  exact congrArg (out0_6 (iblk m c 0 t0_0) (iblk m c 1 t0_0) (iblk m c 2 t0_0) (iblk m c 3 t0_0)) (emb6 t0_0 y).symm

/-- The masked-out value is above the padding's. -/
theorem dead_low : dead < low := by
  show Ideal.ofBits .f32 0xCEEE6B28#32 < Ideal.ofBits .f32 0xCE6E6B28#32
  rw [Rounds.ofBits_dead, Rounds.ofBits_low]
  exact_mod_cast (by norm_num : (-2000000000 : ℝ) < -1000000000)

/-- The result of row numbers the kernel program leaves. -/
abbrev rows : IVec S256 32 := shapeCast S256 ((dats m 0 c).arrAt 4 cfg0.N : IVec S256x1 32) shapeCasts_S256x1_S256

/-- The result of column numbers the kernel program leaves. -/
abbrev cols : IVec S256 32 := shapeCast S256 ((dats m 0 c).arrAt 5 cfg0.N : IVec S256x1 32) shapeCasts_S256x1_S256

/-- The result of scores the kernel program leaves. -/
abbrev scores : FVec Ideal S256 .f32 := shapeCast S256 ((dats m 0 c).arrAt 6 cfg0.N : FVec Ideal S256x1 .f32) shapeCasts_S256x1_S256

/-- The three results at a rank: the row, the column and the score of the problem's pick of that rank. -/
theorem results_apply (hM : NoTie (scoresOf m c)) (r : Fin 256) :
    rows m c (ValueIdx.ix1 r) = BitVec.ofNat 32 ((pick (flat (scoresOf m c) low) (r.castLE (by norm_num))).val / 4096)
      ∧ cols m c (ValueIdx.ix1 r) = BitVec.ofNat 32 ((pick (flat (scoresOf m c) low) (r.castLE (by norm_num))).val % 4096)
      ∧ scores m c (ValueIdx.ix1 r) = flat (scoresOf m c) low (pick (flat (scoresOf m c) low) (r.castLE (by norm_num))) := by
  obtain ⟨k, hv, hf, hk⟩ := candidates_spec dead_low Reference.low_neg hM (r.castLE (by norm_num)) r.isLt
  have hX := fun i j => padded_scores m c t0_0 i j
  have hlow := fun i j => KernelMasked.gone_lt (m ((c : Thread nD τ).loc main_arg0)) (m ((c : Thread nD τ).loc main_arg1))
    (m ((c : Thread nD τ).loc main_arg2)) (m ((c : Thread nD τ).loc main_arg3)) i j
  have hb : candF (padded (scoresOf m c) dead) k < 2 ^ 31 := by rw [hf]; exact lt_trans (Fin.isLt _) (by norm_num)
  have h0 := KernelOut.row_apply _ hlow _ _ _ _ hX r k hk hb
  have h1 := KernelOut.col_apply _ hlow _ _ _ _ hX r k hk hb
  have h2 := KernelOut.score_apply _ hlow _ _ _ _ hX r k hk
  rw [hf] at h0 h1
  rw [hv] at h2
  refine ⟨?_, ?_, ?_⟩
  · unfold rows
    rw [arr4]
    refine (column_apply (a := 256) _ _ r).trans ?_
    refine (congrFun (View.canon_unit_zero hz _ _) _).trans h0
  · unfold cols
    rw [arr5]
    refine (column_apply (a := 256) _ _ r).trans ?_
    refine (congrFun (View.canon_unit_zero hz _ _) _).trans h1
  · unfold scores
    rw [arr6]
    refine (column_apply (a := 256) _ _ r).trans ?_
    refine (congrFun (View.canon_unit_zero hz _ _) _).trans h2

end Cert.KernelRun
end
-- ==== Proof.Algebraic.lean ====
module

public import proofs.«01_k».proof.Defs
public import proofs.«01_k».proof.Proof.NoColumnTie
public import proofs.«01_k».proof.Proof.KernelRun
public import Idealize.ShloMosaic.Lib.Claim

/-!
The algebraic claim: over the extended reals, wherever the precondition holds, the kernel program and the reference program
leave equal rows, columns and scores.
-/

@[expose] public section

noncomputable section

namespace Cert.Algebraic

open Idealize.ShloMosaic Idealize.ShloMosaic.TcCoe Idealize.SL.Sem

/-- A vector of 256 entries is determined by its entries. -/
theorem ext256 {α : Type} (f g : (⟨1, ![256]⟩ : Shape).Idx → α) (h : ∀ r : Fin 256, f (ValueIdx.ix1 r) = g (ValueIdx.ix1 r)) : f = g := by
  funext x
  have e : x = ValueIdx.ix1 (x 0) := by
    funext a
    match a with
    | ⟨0, _⟩ => rfl
  rw [e]
  exact h (x 0)

/-- Over the extended reals the kernel program and the reference program end with equal rows, columns and scores, wherever in
    no column a fourth entry ties with a positive third largest one. -/
theorem algebraic : Cert.algebraic_KernelIdeal_ReferenceIdeal_pre_no_column_tie := by
  intro m g m' g' hpre hagree
  have key : ∀ c : Dev Cert.KernelIdeal.nD, Cert.ReferenceIdeal.Value.res_out0 m' c = Cert.KernelRun.rows m c
      ∧ Cert.ReferenceIdeal.Value.res_out1 m' c = Cert.KernelRun.cols m c
      ∧ Cert.ReferenceIdeal.Value.res_out2 m' c = Cert.KernelRun.scores m c := by
    intro c
    obtain ⟨h0, h1, h2, h3⟩ := hagree c
    have hM := Cert.NoColumnTie.noTie _ _ _ _ (hpre c)
    have hR := fun r : Fin 256 => Cert.Reference.results_apply m' c r (Cert.KernelBlocks.scoresOf m c) (by rw [h0, h1, h2, h3])
    have hK := fun r : Fin 256 => Cert.KernelRun.results_apply m c hM r
    exact ⟨ext256 _ _ fun r => (hR r).1.trans (hK r).1.symm, ext256 _ _ fun r => (hR r).2.1.trans (hK r).2.1.symm,
      ext256 _ _ fun r => (hR r).2.2.trans (hK r).2.2.symm⟩
  refine ⟨Cert.KernelRun.rows m, Cert.KernelRun.cols m, Cert.KernelRun.scores m,
    Cert.KernelTail.run m g, ?_⟩
  refine (θ_run Cert.ReferenceIdeal.defs _ _).mono (fun r h c => ?_) (Cert.ReferenceIdeal.Value.run (F := Ideal) m' g')
  obtain ⟨e0, e1, e2, ha⟩ := h c
  exact ⟨e0.trans (key c).1, e1.trans (key c).2.1, e2.trans (key c).2.2, ha⟩

end Cert.Algebraic
end
-- ==== Proof.lean ====
/- The claims' assembly. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_column_tie
public import proofs.«01_k».proof.Proof.Algebraic
public import Idealize.ShloMosaic.Adequacy
public import Idealize.ShloMosaic.Init

@[expose] public section

noncomputable section

namespace Cert.Proof

open Idealize.ShloMosaic Idealize.SL.Sem

/-- The reference program's run leaves its arguments as they were and no semaphore up. -/
theorem reference_frame : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

/-- Every claim of the certificate. -/
theorem claim : Cert.Claim := ⟨Cert.Kernel.Gen.facts, Cert.KernelIdeal.Gen.facts, Cert.ReferenceIdeal.Gen.facts,
  Cert.Pre_no_column_tie.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial,
  Cert.Algebraic.algebraic⟩

end Cert.Proof

end
